-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4x4096x2048 : Shape := ⟨3, ![4, 4096, 2048]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S4x4096x2048 .f32) (main_arg1 : IVec S2048 32) : IVec S_ 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 2048#32
  let main_v2 : IVec S2048 32 := broadcastInDim S2048 ![] bcast_S_S2048 main_c_0
  let main_v3 : IVec S2048 1 := cmpi .slt main_arg1 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Kernel.lean ====
abbrev S4x4096x2048 : Shape := ⟨3, ![4, 4096, 2048]⟩
abbrev S2048 : Shape := ⟨1, ![2048]⟩
abbrev S16384x2048 : Shape := ⟨2, ![16384, 2048]⟩
abbrev S4608x2048 : Shape := ⟨2, ![4608, 2048]⟩
abbrev S_ : Shape := ⟨0, ![]⟩
abbrev S2x8x2048 : Shape := ⟨3, ![2, 8, 2048]⟩
abbrev S2 : Shape := ⟨1, ![2]⟩
abbrev S1x8x2048 : Shape := ⟨3, ![1, 8, 2048]⟩
abbrev S8x2048 : Shape := ⟨2, ![8, 2048]⟩
abbrev S1 : Shape := ⟨1, ![1]⟩
abbrev S16 : Shape := ⟨1, ![16]⟩
abbrev S1x16 : Shape := ⟨2, ![1, 16]⟩
abbrev S1x2048 : Shape := ⟨2, ![1, 2048]⟩
abbrev S512x2048 : Shape := ⟨2, ![512, 2048]⟩
abbrev S2048x2048 : Shape := ⟨2, ![2048, 2048]⟩

abbrev nBuf : Table → Nat
  | .hbm => 10
  | .local .tc .vmem => 6
  | .local .scVector .vmem => 3
  | _ => 0

abbrev bufTy : (tb : Table) → Fin (nBuf tb) → BufTy
  | .hbm, ⟨0, _⟩ => ⟨S4x4096x2048, .f32⟩
  | .hbm, ⟨1, _⟩ => ⟨S2048, .i32⟩
  | .hbm, ⟨2, _⟩ => ⟨S16384x2048, .f32⟩
  | .hbm, ⟨3, _⟩ => ⟨S4608x2048, .f32⟩
  | .hbm, ⟨4, _⟩ => ⟨S1x2048, .i32⟩
  | .hbm, ⟨5, _⟩ => ⟨S16384x2048, .f32⟩
  | .hbm, ⟨6, _⟩ => ⟨S_, .i32⟩
  | .hbm, ⟨7, _⟩ => ⟨S_, .i32⟩
  | .hbm, ⟨8, _⟩ => ⟨S16384x2048, .f32⟩
  | .hbm, ⟨9, _⟩ => ⟨S4x4096x2048, .f32⟩
  | .local .tc .vmem, ⟨0, _⟩ => ⟨S512x2048, .f32⟩
  | .local .tc .vmem, ⟨1, _⟩ => ⟨S512x2048, .f32⟩
  | .local .tc .vmem, ⟨2, _⟩ => ⟨S1x2048, .i32⟩
  | .local .tc .vmem, ⟨3, _⟩ => ⟨S512x2048, .f32⟩
  | .local .tc .vmem, ⟨4, _⟩ => ⟨S512x2048, .f32⟩
  | .local .tc .vmem, ⟨5, _⟩ => ⟨S2048x2048, .bf16⟩
  | .local .scVector .vmem, ⟨0, _⟩ => ⟨S2048, .i32⟩
  | .local .scVector .vmem, ⟨1, _⟩ => ⟨S2x8x2048, .f32⟩
  | .local .scVector .vmem, ⟨2, _⟩ => ⟨S2x8x2048, .f32⟩
  | _, _ => ⟨S4x4096x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc1_scratch0 : Ref sig .tc := ⟨.vmem, 5, rfl⟩
abbrev cc0_scratch0 : Ref sig .scVector := ⟨.vmem, 0, rfl⟩
abbrev cc0_scoped0 : Ref sig .scVector := ⟨.vmem, 1, rfl⟩
abbrev cc0_scoped2 : Ref sig .scVector := ⟨.vmem, 2, rfl⟩
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c8_i32_r0 : BitVec 32 := 8#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c18_i32 : BitVec 32 := 18#32
  let v4 : BitVec 32 := Scalar.muli v3 c18_i32
  let v7_r0 : BitVec 32 := Scalar.addi c0_i32_1_r0 v4
  let v22_r0 : BitVec 32 := Scalar.muli c8_i32_r0 v7_r0
  let c0_i32_16_r0 : BitVec 32 := 0#32
  ![v22_r0.toNat, 0]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c18_i32_27_r0 : BitVec 32 := 18#32
  let v32_r0 : BitVec 32 := Scalar.addi c0_i32_26_r0 c18_i32_27_r0
  let c1_i32_28_r0 : BitVec 32 := 1#32
  ⟨c0_i32_26_r0, v32_r0, c1_i32_28_r0⟩
def k0_off4 (arg8_r0 : BitVec 32) : Fin 3 → Nat :=
  let c2_i32_101_r0 : BitVec 32 := 2#32
  let v145_r0 : BitVec 32 := Scalar.remui arg8_r0 c2_i32_101_r0
  let c0_i32_103_r0 : BitVec 32 := 0#32
  let c0_i32_104_r0 : BitVec 32 := 0#32
  ![v145_r0.toNat, 0, 0]
def k0_cond1 (i : grid0.Coords) (k0_t1 : Fin k0_t1_loop.trips) (arg12_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c18_i32 : BitVec 32 := 18#32
  let v4 : BitVec 32 := Scalar.muli v3 c18_i32
  let v66_r0 : BitVec 32 := Scalar.addi arg12_r0 v4
  let true_61_r0 : BitVec 1 := 1#1
  let c1_i32_60_r0 : BitVec 32 := 1#32
  let v72_r0 : BitVec 32 := Scalar.addi arg12_r0 c1_i32_60_r0
  let v73_r0 : BitVec 32 := Scalar.select true_61_r0 v72_r0 arg12_r0
  let c18_i32_62_r0 : BitVec 32 := 18#32
  let v74_r0 : BitVec 1 := Scalar.cmpi .eq v73_r0 c18_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg7_r0 : BitVec 32 := Scf.iv c0_i32_26_r0 c1_i32_28_r0 k0_t1
  let c17_i32_68_r0 : BitVec 32 := 17#32
  let v83_r0 : BitVec 1 := Scalar.cmpi .sge arg7_r0 c17_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg12_r0 : BitVec 32) : Fin 2 → Nat :=
  let c8_i32_102_r0 : BitVec 32 := 8#32
  let true_61_r0 : BitVec 1 := 1#1
  let c1_i32_60_r0 : BitVec 32 := 1#32
  let v72_r0 : BitVec 32 := Scalar.addi arg12_r0 c1_i32_60_r0
  let v73_r0 : BitVec 32 := Scalar.select true_61_r0 v72_r0 arg12_r0
  let c18_i32_62_r0 : BitVec 32 := 18#32
  let v74_r0 : BitVec 1 := Scalar.cmpi .eq v73_r0 c18_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c18_i32 : BitVec 32 := 18#32
  let v4 : BitVec 32 := Scalar.muli v3 c18_i32
  let v76_r0 : BitVec 32 := Scalar.addi v75_r0 v4
  let v146_r0 : BitVec 32 := Scalar.muli c8_i32_102_r0 v76_r0
  let c0_i32_105_r0 : BitVec 32 := 0#32
  ![v146_r0.toNat, 0]
def k0_off6 (arg8_r0 : BitVec 32) : Fin 1 → Nat :=
  let c2_i32_101_r0 : BitVec 32 := 2#32
  let v145_r0 : BitVec 32 := Scalar.remui arg8_r0 c2_i32_101_r0
  ![v145_r0.toNat]
def k0_off7 (arg9_r0 : BitVec 32) : Fin 3 → Nat :=
  let c2_i32_102_r0 : BitVec 32 := 2#32
  let v146_r0 : BitVec 32 := Scalar.remui arg9_r0 c2_i32_102_r0
  let c0_i32_103_r0 : BitVec 32 := 0#32
  let c0_i32_104_r0 : BitVec 32 := 0#32
  ![v146_r0.toNat, 0, 0]
def k0_cond2 (i : grid0.Coords) (k0_t1 : Fin k0_t1_loop.trips) (arg12_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c18_i32 : BitVec 32 := 18#32
  let v4 : BitVec 32 := Scalar.muli v3 c18_i32
  let v66_r0 : BitVec 32 := Scalar.addi arg12_r0 v4
  let true_57_r0 : BitVec 1 := 1#1
  let c1_i32_56_r0 : BitVec 32 := 1#32
  let v67_r0 : BitVec 32 := Scalar.subi arg12_r0 c1_i32_56_r0
  let v68_r0 : BitVec 32 := Scalar.select true_57_r0 v67_r0 arg12_r0
  let c_m1_i32_58_r0 : BitVec 32 := 4294967295#32
  let v69_r0 : BitVec 1 := Scalar.cmpi .eq v68_r0 c_m1_i32_58_r0
  let c17_i32_59_r0 : BitVec 32 := 17#32
  let v70_r0 : BitVec 32 := Scalar.select v69_r0 c17_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg7_r0 : BitVec 32 := Scf.iv c0_i32_26_r0 c1_i32_28_r0 k0_t1
  let c0_i32_54_r0 : BitVec 32 := 0#32
  let v64_r0 : BitVec 1 := Scalar.cmpi .eq arg7_r0 c0_i32_54_r0
  let v97_r0 : BitVec 1 := Scalar.ori v96_r0 v64_r0
  let c0_i32_76_r0 : BitVec 32 := 0#32
  let v98_r0 : BitVec 1 := Scalar.cmpi .sge arg7_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg12_r0 : BitVec 32) : Fin 2 → Nat :=
  let c8_i32_101_r0 : BitVec 32 := 8#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c18_i32 : BitVec 32 := 18#32
  let v4 : BitVec 32 := Scalar.muli v3 c18_i32
  let v66_r0 : BitVec 32 := Scalar.addi arg12_r0 v4
  let v145_r0 : BitVec 32 := Scalar.muli c8_i32_101_r0 v66_r0
  let c0_i32_105_r0 : BitVec 32 := 0#32
  ![v145_r0.toNat, 0]
def k0_off9 (arg9_r0 : BitVec 32) : Fin 1 → Nat :=
  let c2_i32_102_r0 : BitVec 32 := 2#32
  let v146_r0 : BitVec 32 := Scalar.remui arg9_r0 c2_i32_102_r0
  ![v146_r0.toNat]
@[reducible] def k0_t2_loop : Scf.Loop 32 :=
  let c0_i32_82_r0 : BitVec 32 := 0#32
  let c128_i32_r0 : BitVec 32 := 128#32
  let v110_r0 : BitVec 32 := Scalar.addi c0_i32_82_r0 c128_i32_r0
  let c1_i32_83_r0 : BitVec 32 := 1#32
  ⟨c0_i32_82_r0, v110_r0, c1_i32_83_r0⟩
def k0_off10 (k0_t2 : Fin k0_t2_loop.trips) : Fin 1 → Nat :=
  let c0_i32_102_r0 : BitVec 32 := 0#32
  let c0_i32_82_r0 : BitVec 32 := 0#32
  let c1_i32_83_r0 : BitVec 32 := 1#32
  let arg13_r0 : BitVec 32 := Scf.iv c0_i32_82_r0 c1_i32_83_r0 k0_t2
  let c1_i32_101_r0 : BitVec 32 := 1#32
  let v145_r0 : BitVec 32 := Scalar.muli arg13_r0 c1_i32_101_r0
  let v146_r0 : BitVec 32 := Scalar.addi c0_i32_102_r0 v145_r0
  let c16_i32_103_r0 : BitVec 32 := 16#32
  let v147_r0 : BitVec 32 := Scalar.muli v146_r0 c16_i32_103_r0
  let v148_r0 : Index := Scalar.indexCast v147_r0
  ![v148_r0.toNat]
def k0_off11 (arg9_r0 : BitVec 32) : Fin 3 → Nat :=
  let c2_i32_80_r0 : BitVec 32 := 2#32
  let v108_r0 : BitVec 32 := Scalar.remui arg9_r0 c2_i32_80_r0
  let c0_i32_105_r0 : BitVec 32 := 0#32
  let c0_i32_106_r0 : BitVec 32 := 0#32
  ![v108_r0.toNat, 0, 0]

def k0_chk3 (v149_r0 : IVec S16 32) (v150_r0 : IVec S16 32) : Prop :=
  (∀ a x, ((![v150_r0, v149_r0] : Fin 2 → IVec S16 32) a x).toNat < S8x2048.size a)
theorem k0_idx1_inb : ∀ (v149_r0 : IVec S16 32) (v150_r0 : IVec S16 32) (k0_hw3 : k0_chk3 v149_r0 v150_r0), ∀ a x, ((![v150_r0, v149_r0] : Fin 2 → IVec S16 32) a x).toNat < S8x2048.size a := fun v149_r0 v150_r0 k0_hw3 => k0_hw3
def k0_off12 (arg10_r0 : BitVec 32) : Fin 3 → Nat :=
  let c2_i32_81_r0 : BitVec 32 := 2#32
  let v109_r0 : BitVec 32 := Scalar.remui arg10_r0 c2_i32_81_r0
  let c0_i32_109_r0 : BitVec 32 := 0#32
  let c0_i32_110_r0 : BitVec 32 := 0#32
  ![v109_r0.toNat, 0, 0]

def k0_off13 (k0_t2 : Fin k0_t2_loop.trips) : Fin 2 → Nat :=
  let c0_i32_108_r0 : BitVec 32 := 0#32
  let v157_r0 : Index := Scalar.indexCast c0_i32_108_r0
  let c0_i32_102_r0 : BitVec 32 := 0#32
  let c0_i32_82_r0 : BitVec 32 := 0#32
  let c1_i32_83_r0 : BitVec 32 := 1#32
  let arg13_r0 : BitVec 32 := Scf.iv c0_i32_82_r0 c1_i32_83_r0 k0_t2
  let c1_i32_101_r0 : BitVec 32 := 1#32
  let v145_r0 : BitVec 32 := Scalar.muli arg13_r0 c1_i32_101_r0
  let v146_r0 : BitVec 32 := Scalar.addi c0_i32_102_r0 v145_r0
  let c16_i32_107_r0 : BitVec 32 := 16#32
  let v154_r0 : BitVec 32 := Scalar.muli v146_r0 c16_i32_107_r0
  let v158_r0 : Index := Scalar.indexCast v154_r0
  ![0, v158_r0.toNat]
def k0_off14 (arg9_r0 : BitVec 32) : Fin 3 → Nat :=
  let c2_i32_80_r0 : BitVec 32 := 2#32
  let v108_r0 : BitVec 32 := Scalar.remui arg9_r0 c2_i32_80_r0
  let c0_i32_112_r0 : BitVec 32 := 0#32
  let c0_i32_113_r0 : BitVec 32 := 0#32
  ![v108_r0.toNat, 0, 0]

def k0_chk5 (v149_r0 : IVec S16 32) (v160_r0 : IVec S16 32) : Prop :=
  (∀ a x, ((![v160_r0, v149_r0] : Fin 2 → IVec S16 32) a x).toNat < S8x2048.size a)
theorem k0_idx2_inb : ∀ (v149_r0 : IVec S16 32) (v160_r0 : IVec S16 32) (k0_hw5 : k0_chk5 v149_r0 v160_r0), ∀ a x, ((![v160_r0, v149_r0] : Fin 2 → IVec S16 32) a x).toNat < S8x2048.size a := fun v149_r0 v160_r0 k0_hw5 => k0_hw5
def k0_off15 (arg10_r0 : BitVec 32) : Fin 3 → Nat :=
  let c2_i32_81_r0 : BitVec 32 := 2#32
  let v109_r0 : BitVec 32 := Scalar.remui arg10_r0 c2_i32_81_r0
  let c0_i32_116_r0 : BitVec 32 := 0#32
  let c0_i32_117_r0 : BitVec 32 := 0#32
  ![v109_r0.toNat, 0, 0]
def k0_off16 (k0_t2 : Fin k0_t2_loop.trips) : Fin 2 → Nat :=
  let c1_i32_115_r0 : BitVec 32 := 1#32
  let v167_r0 : Index := Scalar.indexCast c1_i32_115_r0
  let c0_i32_102_r0 : BitVec 32 := 0#32
  let c0_i32_82_r0 : BitVec 32 := 0#32
  let c1_i32_83_r0 : BitVec 32 := 1#32
  let arg13_r0 : BitVec 32 := Scf.iv c0_i32_82_r0 c1_i32_83_r0 k0_t2
  let c1_i32_101_r0 : BitVec 32 := 1#32
  let v145_r0 : BitVec 32 := Scalar.muli arg13_r0 c1_i32_101_r0
  let v146_r0 : BitVec 32 := Scalar.addi c0_i32_102_r0 v145_r0
  let c16_i32_114_r0 : BitVec 32 := 16#32
  let v164_r0 : BitVec 32 := Scalar.muli v146_r0 c16_i32_114_r0
  let v168_r0 : Index := Scalar.indexCast v164_r0
  ![1, v168_r0.toNat]
def k0_off17 (arg9_r0 : BitVec 32) : Fin 3 → Nat :=
  let c2_i32_80_r0 : BitVec 32 := 2#32
  let v108_r0 : BitVec 32 := Scalar.remui arg9_r0 c2_i32_80_r0
  let c0_i32_119_r0 : BitVec 32 := 0#32
  let c0_i32_120_r0 : BitVec 32 := 0#32
  ![v108_r0.toNat, 0, 0]

def k0_chk6 (v149_r0 : IVec S16 32) (v170_r0 : IVec S16 32) : Prop :=
  (∀ a x, ((![v170_r0, v149_r0] : Fin 2 → IVec S16 32) a x).toNat < S8x2048.size a)
theorem k0_idx3_inb : ∀ (v149_r0 : IVec S16 32) (v170_r0 : IVec S16 32) (k0_hw6 : k0_chk6 v149_r0 v170_r0), ∀ a x, ((![v170_r0, v149_r0] : Fin 2 → IVec S16 32) a x).toNat < S8x2048.size a := fun v149_r0 v170_r0 k0_hw6 => k0_hw6
def k0_off18 (arg10_r0 : BitVec 32) : Fin 3 → Nat :=
  let c2_i32_81_r0 : BitVec 32 := 2#32
  let v109_r0 : BitVec 32 := Scalar.remui arg10_r0 c2_i32_81_r0
  let c0_i32_123_r0 : BitVec 32 := 0#32
  let c0_i32_124_r0 : BitVec 32 := 0#32
  ![v109_r0.toNat, 0, 0]
def k0_off19 (k0_t2 : Fin k0_t2_loop.trips) : Fin 2 → Nat :=
  let c2_i32_122_r0 : BitVec 32 := 2#32
  let v177_r0 : Index := Scalar.indexCast c2_i32_122_r0
  let c0_i32_102_r0 : BitVec 32 := 0#32
  let c0_i32_82_r0 : BitVec 32 := 0#32
  let c1_i32_83_r0 : BitVec 32 := 1#32
  let arg13_r0 : BitVec 32 := Scf.iv c0_i32_82_r0 c1_i32_83_r0 k0_t2
  let c1_i32_101_r0 : BitVec 32 := 1#32
  let v145_r0 : BitVec 32 := Scalar.muli arg13_r0 c1_i32_101_r0
  let v146_r0 : BitVec 32 := Scalar.addi c0_i32_102_r0 v145_r0
  let c16_i32_121_r0 : BitVec 32 := 16#32
  let v174_r0 : BitVec 32 := Scalar.muli v146_r0 c16_i32_121_r0
  let v178_r0 : Index := Scalar.indexCast v174_r0
  ![2, v178_r0.toNat]
def k0_off20 (arg9_r0 : BitVec 32) : Fin 3 → Nat :=
  let c2_i32_80_r0 : BitVec 32 := 2#32
  let v108_r0 : BitVec 32 := Scalar.remui arg9_r0 c2_i32_80_r0
  let c0_i32_125_r0 : BitVec 32 := 0#32
  let c0_i32_126_r0 : BitVec 32 := 0#32
  ![v108_r0.toNat, 0, 0]

def k0_chk7 (v149_r0 : IVec S16 32) (v180_r0 : IVec S16 32) : Prop :=
  (∀ a x, ((![v180_r0, v149_r0] : Fin 2 → IVec S16 32) a x).toNat < S8x2048.size a)
theorem k0_idx4_inb : ∀ (v149_r0 : IVec S16 32) (v180_r0 : IVec S16 32) (k0_hw7 : k0_chk7 v149_r0 v180_r0), ∀ a x, ((![v180_r0, v149_r0] : Fin 2 → IVec S16 32) a x).toNat < S8x2048.size a := fun v149_r0 v180_r0 k0_hw7 => k0_hw7
def k0_off21 (arg10_r0 : BitVec 32) : Fin 3 → Nat :=
  let c2_i32_81_r0 : BitVec 32 := 2#32
  let v109_r0 : BitVec 32 := Scalar.remui arg10_r0 c2_i32_81_r0
  let c0_i32_129_r0 : BitVec 32 := 0#32
  let c0_i32_130_r0 : BitVec 32 := 0#32
  ![v109_r0.toNat, 0, 0]
def k0_off22 (k0_t2 : Fin k0_t2_loop.trips) : Fin 2 → Nat :=
  let c3_i32_128_r0 : BitVec 32 := 3#32
  let v187_r0 : Index := Scalar.indexCast c3_i32_128_r0
  let c0_i32_102_r0 : BitVec 32 := 0#32
  let c0_i32_82_r0 : BitVec 32 := 0#32
  let c1_i32_83_r0 : BitVec 32 := 1#32
  let arg13_r0 : BitVec 32 := Scf.iv c0_i32_82_r0 c1_i32_83_r0 k0_t2
  let c1_i32_101_r0 : BitVec 32 := 1#32
  let v145_r0 : BitVec 32 := Scalar.muli arg13_r0 c1_i32_101_r0
  let v146_r0 : BitVec 32 := Scalar.addi c0_i32_102_r0 v145_r0
  let c16_i32_127_r0 : BitVec 32 := 16#32
  let v184_r0 : BitVec 32 := Scalar.muli v146_r0 c16_i32_127_r0
  let v188_r0 : Index := Scalar.indexCast v184_r0
  ![3, v188_r0.toNat]
def k0_off23 (arg9_r0 : BitVec 32) : Fin 3 → Nat :=
  let c2_i32_80_r0 : BitVec 32 := 2#32
  let v108_r0 : BitVec 32 := Scalar.remui arg9_r0 c2_i32_80_r0
  let c0_i32_131_r0 : BitVec 32 := 0#32
  let c0_i32_132_r0 : BitVec 32 := 0#32
  ![v108_r0.toNat, 0, 0]

def k0_chk8 (v149_r0 : IVec S16 32) (v190_r0 : IVec S16 32) : Prop :=
  (∀ a x, ((![v190_r0, v149_r0] : Fin 2 → IVec S16 32) a x).toNat < S8x2048.size a)
theorem k0_idx5_inb : ∀ (v149_r0 : IVec S16 32) (v190_r0 : IVec S16 32) (k0_hw8 : k0_chk8 v149_r0 v190_r0), ∀ a x, ((![v190_r0, v149_r0] : Fin 2 → IVec S16 32) a x).toNat < S8x2048.size a := fun v149_r0 v190_r0 k0_hw8 => k0_hw8
def k0_off24 (arg10_r0 : BitVec 32) : Fin 3 → Nat :=
  let c2_i32_81_r0 : BitVec 32 := 2#32
  let v109_r0 : BitVec 32 := Scalar.remui arg10_r0 c2_i32_81_r0
  let c0_i32_135_r0 : BitVec 32 := 0#32
  let c0_i32_136_r0 : BitVec 32 := 0#32
  ![v109_r0.toNat, 0, 0]
def k0_off25 (k0_t2 : Fin k0_t2_loop.trips) : Fin 2 → Nat :=
  let c4_i32_134_r0 : BitVec 32 := 4#32
  let v197_r0 : Index := Scalar.indexCast c4_i32_134_r0
  let c0_i32_102_r0 : BitVec 32 := 0#32
  let c0_i32_82_r0 : BitVec 32 := 0#32
  let c1_i32_83_r0 : BitVec 32 := 1#32
  let arg13_r0 : BitVec 32 := Scf.iv c0_i32_82_r0 c1_i32_83_r0 k0_t2
  let c1_i32_101_r0 : BitVec 32 := 1#32
  let v145_r0 : BitVec 32 := Scalar.muli arg13_r0 c1_i32_101_r0
  let v146_r0 : BitVec 32 := Scalar.addi c0_i32_102_r0 v145_r0
  let c16_i32_133_r0 : BitVec 32 := 16#32
  let v194_r0 : BitVec 32 := Scalar.muli v146_r0 c16_i32_133_r0
  let v198_r0 : Index := Scalar.indexCast v194_r0
  ![4, v198_r0.toNat]
def k0_off26 (arg9_r0 : BitVec 32) : Fin 3 → Nat :=
  let c2_i32_80_r0 : BitVec 32 := 2#32
  let v108_r0 : BitVec 32 := Scalar.remui arg9_r0 c2_i32_80_r0
  let c0_i32_137_r0 : BitVec 32 := 0#32
  let c0_i32_138_r0 : BitVec 32 := 0#32
  ![v108_r0.toNat, 0, 0]

def k0_chk9 (v149_r0 : IVec S16 32) (v200_r0 : IVec S16 32) : Prop :=
  (∀ a x, ((![v200_r0, v149_r0] : Fin 2 → IVec S16 32) a x).toNat < S8x2048.size a)
theorem k0_idx6_inb : ∀ (v149_r0 : IVec S16 32) (v200_r0 : IVec S16 32) (k0_hw9 : k0_chk9 v149_r0 v200_r0), ∀ a x, ((![v200_r0, v149_r0] : Fin 2 → IVec S16 32) a x).toNat < S8x2048.size a := fun v149_r0 v200_r0 k0_hw9 => k0_hw9
def k0_off27 (arg10_r0 : BitVec 32) : Fin 3 → Nat :=
  let c2_i32_81_r0 : BitVec 32 := 2#32
  let v109_r0 : BitVec 32 := Scalar.remui arg10_r0 c2_i32_81_r0
  let c0_i32_141_r0 : BitVec 32 := 0#32
  let c0_i32_142_r0 : BitVec 32 := 0#32
  ![v109_r0.toNat, 0, 0]
def k0_off28 (k0_t2 : Fin k0_t2_loop.trips) : Fin 2 → Nat :=
  let c5_i32_140_r0 : BitVec 32 := 5#32
  let v207_r0 : Index := Scalar.indexCast c5_i32_140_r0
  let c0_i32_102_r0 : BitVec 32 := 0#32
  let c0_i32_82_r0 : BitVec 32 := 0#32
  let c1_i32_83_r0 : BitVec 32 := 1#32
  let arg13_r0 : BitVec 32 := Scf.iv c0_i32_82_r0 c1_i32_83_r0 k0_t2
  let c1_i32_101_r0 : BitVec 32 := 1#32
  let v145_r0 : BitVec 32 := Scalar.muli arg13_r0 c1_i32_101_r0
  let v146_r0 : BitVec 32 := Scalar.addi c0_i32_102_r0 v145_r0
  let c16_i32_139_r0 : BitVec 32 := 16#32
  let v204_r0 : BitVec 32 := Scalar.muli v146_r0 c16_i32_139_r0
  let v208_r0 : Index := Scalar.indexCast v204_r0
  ![5, v208_r0.toNat]
def k0_off29 (arg9_r0 : BitVec 32) : Fin 3 → Nat :=
  let c2_i32_80_r0 : BitVec 32 := 2#32
  let v108_r0 : BitVec 32 := Scalar.remui arg9_r0 c2_i32_80_r0
  let c0_i32_143_r0 : BitVec 32 := 0#32
  let c0_i32_144_r0 : BitVec 32 := 0#32
  ![v108_r0.toNat, 0, 0]

def k0_chk10 (v149_r0 : IVec S16 32) (v210_r0 : IVec S16 32) : Prop :=
  (∀ a x, ((![v210_r0, v149_r0] : Fin 2 → IVec S16 32) a x).toNat < S8x2048.size a)
theorem k0_idx7_inb : ∀ (v149_r0 : IVec S16 32) (v210_r0 : IVec S16 32) (k0_hw10 : k0_chk10 v149_r0 v210_r0), ∀ a x, ((![v210_r0, v149_r0] : Fin 2 → IVec S16 32) a x).toNat < S8x2048.size a := fun v149_r0 v210_r0 k0_hw10 => k0_hw10
def k0_off30 (arg10_r0 : BitVec 32) : Fin 3 → Nat :=
  let c2_i32_81_r0 : BitVec 32 := 2#32
  let v109_r0 : BitVec 32 := Scalar.remui arg10_r0 c2_i32_81_r0
  let c0_i32_147_r0 : BitVec 32 := 0#32
  let c0_i32_148_r0 : BitVec 32 := 0#32
  ![v109_r0.toNat, 0, 0]
def k0_off31 (k0_t2 : Fin k0_t2_loop.trips) : Fin 2 → Nat :=
  let c6_i32_146_r0 : BitVec 32 := 6#32
  let v217_r0 : Index := Scalar.indexCast c6_i32_146_r0
  let c0_i32_102_r0 : BitVec 32 := 0#32
  let c0_i32_82_r0 : BitVec 32 := 0#32
  let c1_i32_83_r0 : BitVec 32 := 1#32
  let arg13_r0 : BitVec 32 := Scf.iv c0_i32_82_r0 c1_i32_83_r0 k0_t2
  let c1_i32_101_r0 : BitVec 32 := 1#32
  let v145_r0 : BitVec 32 := Scalar.muli arg13_r0 c1_i32_101_r0
  let v146_r0 : BitVec 32 := Scalar.addi c0_i32_102_r0 v145_r0
  let c16_i32_145_r0 : BitVec 32 := 16#32
  let v214_r0 : BitVec 32 := Scalar.muli v146_r0 c16_i32_145_r0
  let v218_r0 : Index := Scalar.indexCast v214_r0
  ![6, v218_r0.toNat]
def k0_off32 (arg9_r0 : BitVec 32) : Fin 3 → Nat :=
  let c2_i32_80_r0 : BitVec 32 := 2#32
  let v108_r0 : BitVec 32 := Scalar.remui arg9_r0 c2_i32_80_r0
  let c0_i32_149_r0 : BitVec 32 := 0#32
  let c0_i32_150_r0 : BitVec 32 := 0#32
  ![v108_r0.toNat, 0, 0]

def k0_chk2 (arg9_r0 : BitVec 32) : Prop :=
  (∀ a, (k0_off11 arg9_r0) a + S1x8x2048.size a ≤ S2x8x2048.size a) ∧
  (∀ a, (k0_off14 arg9_r0) a + S1x8x2048.size a ≤ S2x8x2048.size a) ∧
  (∀ a, (k0_off17 arg9_r0) a + S1x8x2048.size a ≤ S2x8x2048.size a) ∧
  (∀ a, (k0_off20 arg9_r0) a + S1x8x2048.size a ≤ S2x8x2048.size a) ∧
  (∀ a, (k0_off23 arg9_r0) a + S1x8x2048.size a ≤ S2x8x2048.size a) ∧
  (∀ a, (k0_off26 arg9_r0) a + S1x8x2048.size a ≤ S2x8x2048.size a) ∧
  (∀ a, (k0_off29 arg9_r0) a + S1x8x2048.size a ≤ S2x8x2048.size a) ∧
  (∀ a, (k0_off32 arg9_r0) a + S1x8x2048.size a ≤ S2x8x2048.size a)
theorem k0_off11_inb : ∀ (arg9_r0 : BitVec 32) (k0_hw2 : k0_chk2 arg9_r0), ∀ a, (k0_off11 arg9_r0) a + S1x8x2048.size a ≤ S2x8x2048.size a := fun arg9_r0 k0_hw2 => k0_hw2.1
theorem k0_off14_inb : ∀ (arg9_r0 : BitVec 32) (k0_hw2 : k0_chk2 arg9_r0), ∀ a, (k0_off14 arg9_r0) a + S1x8x2048.size a ≤ S2x8x2048.size a := fun arg9_r0 k0_hw2 => k0_hw2.2.1
theorem k0_off17_inb : ∀ (arg9_r0 : BitVec 32) (k0_hw2 : k0_chk2 arg9_r0), ∀ a, (k0_off17 arg9_r0) a + S1x8x2048.size a ≤ S2x8x2048.size a := fun arg9_r0 k0_hw2 => k0_hw2.2.2.1
theorem k0_off20_inb : ∀ (arg9_r0 : BitVec 32) (k0_hw2 : k0_chk2 arg9_r0), ∀ a, (k0_off20 arg9_r0) a + S1x8x2048.size a ≤ S2x8x2048.size a := fun arg9_r0 k0_hw2 => k0_hw2.2.2.2.1
theorem k0_off23_inb : ∀ (arg9_r0 : BitVec 32) (k0_hw2 : k0_chk2 arg9_r0), ∀ a, (k0_off23 arg9_r0) a + S1x8x2048.size a ≤ S2x8x2048.size a := fun arg9_r0 k0_hw2 => k0_hw2.2.2.2.2.1
theorem k0_off26_inb : ∀ (arg9_r0 : BitVec 32) (k0_hw2 : k0_chk2 arg9_r0), ∀ a, (k0_off26 arg9_r0) a + S1x8x2048.size a ≤ S2x8x2048.size a := fun arg9_r0 k0_hw2 => k0_hw2.2.2.2.2.2.1
theorem k0_off29_inb : ∀ (arg9_r0 : BitVec 32) (k0_hw2 : k0_chk2 arg9_r0), ∀ a, (k0_off29 arg9_r0) a + S1x8x2048.size a ≤ S2x8x2048.size a := fun arg9_r0 k0_hw2 => k0_hw2.2.2.2.2.2.2.1
theorem k0_off32_inb : ∀ (arg9_r0 : BitVec 32) (k0_hw2 : k0_chk2 arg9_r0), ∀ a, (k0_off32 arg9_r0) a + S1x8x2048.size a ≤ S2x8x2048.size a := fun arg9_r0 k0_hw2 => k0_hw2.2.2.2.2.2.2.2

def k0_chk11 (v149_r0 : IVec S16 32) (v220_r0 : IVec S16 32) : Prop :=
  (∀ a x, ((![v220_r0, v149_r0] : Fin 2 → IVec S16 32) a x).toNat < S8x2048.size a)
theorem k0_idx8_inb : ∀ (v149_r0 : IVec S16 32) (v220_r0 : IVec S16 32) (k0_hw11 : k0_chk11 v149_r0 v220_r0), ∀ a x, ((![v220_r0, v149_r0] : Fin 2 → IVec S16 32) a x).toNat < S8x2048.size a := fun v149_r0 v220_r0 k0_hw11 => k0_hw11
def k0_off33 (arg10_r0 : BitVec 32) : Fin 3 → Nat :=
  let c2_i32_81_r0 : BitVec 32 := 2#32
  let v109_r0 : BitVec 32 := Scalar.remui arg10_r0 c2_i32_81_r0
  let c0_i32_153_r0 : BitVec 32 := 0#32
  let c0_i32_154_r0 : BitVec 32 := 0#32
  ![v109_r0.toNat, 0, 0]

def k0_chk4 (arg10_r0 : BitVec 32) : Prop :=
  (∀ a, (k0_off12 arg10_r0) a + S1x8x2048.size a ≤ S2x8x2048.size a) ∧
  (∀ a, (k0_off15 arg10_r0) a + S1x8x2048.size a ≤ S2x8x2048.size a) ∧
  (∀ a, (k0_off18 arg10_r0) a + S1x8x2048.size a ≤ S2x8x2048.size a) ∧
  (∀ a, (k0_off21 arg10_r0) a + S1x8x2048.size a ≤ S2x8x2048.size a) ∧
  (∀ a, (k0_off24 arg10_r0) a + S1x8x2048.size a ≤ S2x8x2048.size a) ∧
  (∀ a, (k0_off27 arg10_r0) a + S1x8x2048.size a ≤ S2x8x2048.size a) ∧
  (∀ a, (k0_off30 arg10_r0) a + S1x8x2048.size a ≤ S2x8x2048.size a) ∧
  (∀ a, (k0_off33 arg10_r0) a + S1x8x2048.size a ≤ S2x8x2048.size a)
theorem k0_off12_inb : ∀ (arg10_r0 : BitVec 32) (k0_hw4 : k0_chk4 arg10_r0), ∀ a, (k0_off12 arg10_r0) a + S1x8x2048.size a ≤ S2x8x2048.size a := fun arg10_r0 k0_hw4 => k0_hw4.1
theorem k0_off15_inb : ∀ (arg10_r0 : BitVec 32) (k0_hw4 : k0_chk4 arg10_r0), ∀ a, (k0_off15 arg10_r0) a + S1x8x2048.size a ≤ S2x8x2048.size a := fun arg10_r0 k0_hw4 => k0_hw4.2.1
theorem k0_off18_inb : ∀ (arg10_r0 : BitVec 32) (k0_hw4 : k0_chk4 arg10_r0), ∀ a, (k0_off18 arg10_r0) a + S1x8x2048.size a ≤ S2x8x2048.size a := fun arg10_r0 k0_hw4 => k0_hw4.2.2.1
theorem k0_off21_inb : ∀ (arg10_r0 : BitVec 32) (k0_hw4 : k0_chk4 arg10_r0), ∀ a, (k0_off21 arg10_r0) a + S1x8x2048.size a ≤ S2x8x2048.size a := fun arg10_r0 k0_hw4 => k0_hw4.2.2.2.1
theorem k0_off24_inb : ∀ (arg10_r0 : BitVec 32) (k0_hw4 : k0_chk4 arg10_r0), ∀ a, (k0_off24 arg10_r0) a + S1x8x2048.size a ≤ S2x8x2048.size a := fun arg10_r0 k0_hw4 => k0_hw4.2.2.2.2.1
theorem k0_off27_inb : ∀ (arg10_r0 : BitVec 32) (k0_hw4 : k0_chk4 arg10_r0), ∀ a, (k0_off27 arg10_r0) a + S1x8x2048.size a ≤ S2x8x2048.size a := fun arg10_r0 k0_hw4 => k0_hw4.2.2.2.2.2.1
theorem k0_off30_inb : ∀ (arg10_r0 : BitVec 32) (k0_hw4 : k0_chk4 arg10_r0), ∀ a, (k0_off30 arg10_r0) a + S1x8x2048.size a ≤ S2x8x2048.size a := fun arg10_r0 k0_hw4 => k0_hw4.2.2.2.2.2.2.1
theorem k0_off33_inb : ∀ (arg10_r0 : BitVec 32) (k0_hw4 : k0_chk4 arg10_r0), ∀ a, (k0_off33 arg10_r0) a + S1x8x2048.size a ≤ S2x8x2048.size a := fun arg10_r0 k0_hw4 => k0_hw4.2.2.2.2.2.2.2

def k0_off34 (k0_t2 : Fin k0_t2_loop.trips) : Fin 2 → Nat :=
  let c7_i32_152_r0 : BitVec 32 := 7#32
  let v227_r0 : Index := Scalar.indexCast c7_i32_152_r0
  let c0_i32_102_r0 : BitVec 32 := 0#32
  let c0_i32_82_r0 : BitVec 32 := 0#32
  let c1_i32_83_r0 : BitVec 32 := 1#32
  let arg13_r0 : BitVec 32 := Scf.iv c0_i32_82_r0 c1_i32_83_r0 k0_t2
  let c1_i32_101_r0 : BitVec 32 := 1#32
  let v145_r0 : BitVec 32 := Scalar.muli arg13_r0 c1_i32_101_r0
  let v146_r0 : BitVec 32 := Scalar.addi c0_i32_102_r0 v145_r0
  let c16_i32_151_r0 : BitVec 32 := 16#32
  let v224_r0 : BitVec 32 := Scalar.muli v146_r0 c16_i32_151_r0
  let v228_r0 : Index := Scalar.indexCast v224_r0
  ![7, v228_r0.toNat]
def k0_off35 (arg10_r0 : BitVec 32) : Fin 3 → Nat :=
  let c2_i32_101_r0 : BitVec 32 := 2#32
  let v145_r0 : BitVec 32 := Scalar.remui arg10_r0 c2_i32_101_r0
  let c0_i32_103_r0 : BitVec 32 := 0#32
  let c0_i32_104_r0 : BitVec 32 := 0#32
  ![v145_r0.toNat, 0, 0]
def k0_cond5 (i : grid0.Coords) (k0_t1 : Fin k0_t1_loop.trips) (arg12_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c18_i32 : BitVec 32 := 18#32
  let v4 : BitVec 32 := Scalar.muli v3 c18_i32
  let v66_r0 : BitVec 32 := Scalar.addi arg12_r0 v4
  let true_61_r0 : BitVec 1 := 1#1
  let c1_i32_60_r0 : BitVec 32 := 1#32
  let v72_r0 : BitVec 32 := Scalar.addi arg12_r0 c1_i32_60_r0
  let v73_r0 : BitVec 32 := Scalar.select true_61_r0 v72_r0 arg12_r0
  let c18_i32_62_r0 : BitVec 32 := 18#32
  let v74_r0 : BitVec 1 := Scalar.cmpi .eq v73_r0 c18_i32_62_r0
  let c0_i32_63_r0 : BitVec 32 := 0#32
  let v75_r0 : BitVec 32 := Scalar.select v74_r0 c0_i32_63_r0 v73_r0
  let v76_r0 : BitVec 32 := Scalar.addi v75_r0 v4
  let v116_r0 : BitVec 1 := Scalar.cmpi .ne v66_r0 v76_r0
  let c0_i32_26_r0 : BitVec 32 := 0#32
  let c1_i32_28_r0 : BitVec 32 := 1#32
  let arg7_r0 : BitVec 32 := Scf.iv c0_i32_26_r0 c1_i32_28_r0 k0_t1
  let c17_i32_55_r0 : BitVec 32 := 17#32
  let v65_r0 : BitVec 1 := Scalar.cmpi .eq arg7_r0 c17_i32_55_r0
  let v117_r0 : BitVec 1 := Scalar.ori v116_r0 v65_r0
  let v118_r0 : BitVec 32 := Scalar.extui v117_r0
  let c0_i32_86_r0 : BitVec 32 := 0#32
  let v119_r0 : BitVec 1 := Scalar.cmpi .ne v118_r0 c0_i32_86_r0
  v119_r0

def k0_off36 (i : grid0.Coords) (arg12_r0 : BitVec 32) : Fin 2 → Nat :=
  let c8_i32_102_r0 : BitVec 32 := 8#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c18_i32 : BitVec 32 := 18#32
  let v4 : BitVec 32 := Scalar.muli v3 c18_i32
  let v66_r0 : BitVec 32 := Scalar.addi arg12_r0 v4
  let v146_r0 : BitVec 32 := Scalar.muli c8_i32_102_r0 v66_r0
  let c0_i32_105_r0 : BitVec 32 := 0#32
  ![v146_r0.toNat, 0]
def k0_off37 (arg10_r0 : BitVec 32) : Fin 1 → Nat :=
  let c2_i32_101_r0 : BitVec 32 := 2#32
  let v145_r0 : BitVec 32 := Scalar.remui arg10_r0 c2_i32_101_r0
  ![v145_r0.toNat]
def k0_off38 (arg11_r0 : BitVec 32) : Fin 3 → Nat :=
  let c2_i32_101_r0 : BitVec 32 := 2#32
  let v145_r0 : BitVec 32 := Scalar.remui arg11_r0 c2_i32_101_r0
  let c0_i32_103_r0 : BitVec 32 := 0#32
  let c0_i32_104_r0 : BitVec 32 := 0#32
  ![v145_r0.toNat, 0, 0]
def k0_cond7 (i : grid0.Coords) (k0_t1 : Fin k0_t1_loop.trips) (arg12_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c18_i32 : BitVec 32 := 18#32
  let v4 : BitVec 32 := Scalar.muli v3 c18_i32
  let v66_r0 : BitVec 32 := Scalar.addi arg12_r0 v4
  let true_57_r0 : BitVec 1 := 1#1
  let c1_i32_56_r0 : BitVec 32 := 1#32
  let v67_r0 : BitVec 32 := Scalar.subi arg12_r0 c1_i32_56_r0
  let v68_r0 : BitVec 32 := Scalar.select true_57_r0 v67_r0 arg12_r0
  let c_m1_i32_58_r0 : BitVec 32 := 4294967295#32
  let v69_r0 : BitVec 1 := Scalar.cmpi .eq v68_r0 c_m1_i32_58_r0
  let c17_i32_59_r0 : BitVec 32 := 17#32
  let v70_r0 : BitVec 32 := Scalar.select v69_r0 c17_i32_59_r0 v68_r0
  let v71_r0 : BitVec 32 := Scalar.addi v70_r0 v4
  let v129_r0 : BitVec 1 := Scalar.cmpi .ne v66_r0 v71_r0
  let c0_i32_26_r0 : BitVec 32 := 0#32
  let c1_i32_28_r0 : BitVec 32 := 1#32
  let arg7_r0 : BitVec 32 := Scf.iv c0_i32_26_r0 c1_i32_28_r0 k0_t1
  let c0_i32_54_r0 : BitVec 32 := 0#32
  let v64_r0 : BitVec 1 := Scalar.cmpi .eq arg7_r0 c0_i32_54_r0
  let true_92_r0 : BitVec 1 := 1#1
  let v130_r0 : BitVec 1 := Scalar.xori v64_r0 true_92_r0
  let v131_r0 : BitVec 1 := Scalar.andi v129_r0 v130_r0
  let v132_r0 : BitVec 32 := Scalar.extui v131_r0
  let c0_i32_93_r0 : BitVec 32 := 0#32
  let v133_r0 : BitVec 1 := Scalar.cmpi .ne v132_r0 c0_i32_93_r0
  v133_r0

def k0_off39 (i : grid0.Coords) (arg12_r0 : BitVec 32) : Fin 2 → Nat :=
  let c8_i32_102_r0 : BitVec 32 := 8#32
  let true_57_r0 : BitVec 1 := 1#1
  let c1_i32_56_r0 : BitVec 32 := 1#32
  let v67_r0 : BitVec 32 := Scalar.subi arg12_r0 c1_i32_56_r0
  let v68_r0 : BitVec 32 := Scalar.select true_57_r0 v67_r0 arg12_r0
  let c_m1_i32_58_r0 : BitVec 32 := 4294967295#32
  let v69_r0 : BitVec 1 := Scalar.cmpi .eq v68_r0 c_m1_i32_58_r0
  let c17_i32_59_r0 : BitVec 32 := 17#32
  let v70_r0 : BitVec 32 := Scalar.select v69_r0 c17_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c18_i32 : BitVec 32 := 18#32
  let v4 : BitVec 32 := Scalar.muli v3 c18_i32
  let v71_r0 : BitVec 32 := Scalar.addi v70_r0 v4
  let v146_r0 : BitVec 32 := Scalar.muli c8_i32_102_r0 v71_r0
  let c0_i32_105_r0 : BitVec 32 := 0#32
  ![v146_r0.toNat, 0]
def k0_off40 (arg11_r0 : BitVec 32) : Fin 1 → Nat :=
  let c2_i32_101_r0 : BitVec 32 := 2#32
  let v145_r0 : BitVec 32 := Scalar.remui arg11_r0 c2_i32_101_r0
  ![v145_r0.toNat]

def k0_chk1 (i : grid0.Coords) (k0_t1 : Fin k0_t1_loop.trips) (arg8_r0 : BitVec 32) (arg9_r0 : BitVec 32) (arg10_r0 : BitVec 32) (arg11_r0 : BitVec 32) (arg12_r0 : BitVec 32) : Prop :=
  (∀ (k0_h1 : k0_cond1 i k0_t1 arg12_r0 = 1#1), ∀ a, (k0_off4 arg8_r0) a + S1x8x2048.size a ≤ S2x8x2048.size a) ∧
  (∀ (k0_h1 : k0_cond1 i k0_t1 arg12_r0 = 1#1), ∀ a, (k0_off5 i arg12_r0) a + S8x2048.size a ≤ S16384x2048.size a) ∧
  (∀ (k0_h1 : k0_cond1 i k0_t1 arg12_r0 = 1#1), ∀ a, (k0_off6 arg8_r0) a + S1.size a ≤ S2.size a) ∧
  (∀ (k0_h2 : k0_cond2 i k0_t1 arg12_r0 = 1#1), ∀ a, (k0_off7 arg9_r0) a + S1x8x2048.size a ≤ S2x8x2048.size a) ∧
  (∀ (k0_h2 : k0_cond2 i k0_t1 arg12_r0 = 1#1), ∀ a, (k0_off8 i arg12_r0) a + S8x2048.size a ≤ S16384x2048.size a) ∧
  (∀ (k0_h2 : k0_cond2 i k0_t1 arg12_r0 = 1#1), ∀ a, (k0_off9 arg9_r0) a + S1.size a ≤ S2.size a) ∧
  (∀ (k0_h5 : k0_cond5 i k0_t1 arg12_r0 = 1#1), ∀ a, (k0_off35 arg10_r0) a + S1x8x2048.size a ≤ S2x8x2048.size a) ∧
  (∀ (k0_h5 : k0_cond5 i k0_t1 arg12_r0 = 1#1), ∀ a, (k0_off36 i arg12_r0) a + S8x2048.size a ≤ S4608x2048.size a) ∧
  (∀ (k0_h5 : k0_cond5 i k0_t1 arg12_r0 = 1#1), ∀ a, (k0_off37 arg10_r0) a + S1.size a ≤ S2.size a) ∧
  (∀ (k0_h7 : k0_cond7 i k0_t1 arg12_r0 = 1#1), ∀ a, (k0_off38 arg11_r0) a + S1x8x2048.size a ≤ S2x8x2048.size a) ∧
  (∀ (k0_h7 : k0_cond7 i k0_t1 arg12_r0 = 1#1), ∀ a, (k0_off39 i arg12_r0) a + S8x2048.size a ≤ S4608x2048.size a) ∧
  (∀ (k0_h7 : k0_cond7 i k0_t1 arg12_r0 = 1#1), ∀ a, (k0_off40 arg11_r0) a + S1.size a ≤ S2.size a)
theorem k0_off4_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h1 : k0_cond1 i k0_t1 arg12_r0 = 1#1), ∀ a, (k0_off4 arg8_r0) a + S1x8x2048.size a ≤ S2x8x2048.size a := fun i k0_t1 arg8_r0 arg9_r0 arg10_r0 arg11_r0 arg12_r0 k0_hw1 k0_h1 => k0_hw1.1 k0_h1
theorem k0_off5_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h1 : k0_cond1 i k0_t1 arg12_r0 = 1#1), ∀ a, (k0_off5 i arg12_r0) a + S8x2048.size a ≤ S16384x2048.size a := fun i k0_t1 arg8_r0 arg9_r0 arg10_r0 arg11_r0 arg12_r0 k0_hw1 k0_h1 => k0_hw1.2.1 k0_h1
theorem k0_off6_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h1 : k0_cond1 i k0_t1 arg12_r0 = 1#1), ∀ a, (k0_off6 arg8_r0) a + S1.size a ≤ S2.size a := fun i k0_t1 arg8_r0 arg9_r0 arg10_r0 arg11_r0 arg12_r0 k0_hw1 k0_h1 => k0_hw1.2.2.1 k0_h1
theorem k0_off7_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h2 : k0_cond2 i k0_t1 arg12_r0 = 1#1), ∀ a, (k0_off7 arg9_r0) a + S1x8x2048.size a ≤ S2x8x2048.size a := fun i k0_t1 arg8_r0 arg9_r0 arg10_r0 arg11_r0 arg12_r0 k0_hw1 k0_h2 => k0_hw1.2.2.2.1 k0_h2
theorem k0_off8_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h2 : k0_cond2 i k0_t1 arg12_r0 = 1#1), ∀ a, (k0_off8 i arg12_r0) a + S8x2048.size a ≤ S16384x2048.size a := fun i k0_t1 arg8_r0 arg9_r0 arg10_r0 arg11_r0 arg12_r0 k0_hw1 k0_h2 => k0_hw1.2.2.2.2.1 k0_h2
theorem k0_off9_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h2 : k0_cond2 i k0_t1 arg12_r0 = 1#1), ∀ a, (k0_off9 arg9_r0) a + S1.size a ≤ S2.size a := fun i k0_t1 arg8_r0 arg9_r0 arg10_r0 arg11_r0 arg12_r0 k0_hw1 k0_h2 => k0_hw1.2.2.2.2.2.1 k0_h2
theorem k0_off35_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h5 : k0_cond5 i k0_t1 arg12_r0 = 1#1), ∀ a, (k0_off35 arg10_r0) a + S1x8x2048.size a ≤ S2x8x2048.size a := fun i k0_t1 arg8_r0 arg9_r0 arg10_r0 arg11_r0 arg12_r0 k0_hw1 k0_h5 => k0_hw1.2.2.2.2.2.2.1 k0_h5
theorem k0_off36_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h5 : k0_cond5 i k0_t1 arg12_r0 = 1#1), ∀ a, (k0_off36 i arg12_r0) a + S8x2048.size a ≤ S4608x2048.size a := fun i k0_t1 arg8_r0 arg9_r0 arg10_r0 arg11_r0 arg12_r0 k0_hw1 k0_h5 => k0_hw1.2.2.2.2.2.2.2.1 k0_h5
theorem k0_off37_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h5 : k0_cond5 i k0_t1 arg12_r0 = 1#1), ∀ a, (k0_off37 arg10_r0) a + S1.size a ≤ S2.size a := fun i k0_t1 arg8_r0 arg9_r0 arg10_r0 arg11_r0 arg12_r0 k0_hw1 k0_h5 => k0_hw1.2.2.2.2.2.2.2.2.1 k0_h5
theorem k0_off38_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h7 : k0_cond7 i k0_t1 arg12_r0 = 1#1), ∀ a, (k0_off38 arg11_r0) a + S1x8x2048.size a ≤ S2x8x2048.size a := fun i k0_t1 arg8_r0 arg9_r0 arg10_r0 arg11_r0 arg12_r0 k0_hw1 k0_h7 => k0_hw1.2.2.2.2.2.2.2.2.2.1 k0_h7
theorem k0_off39_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h7 : k0_cond7 i k0_t1 arg12_r0 = 1#1), ∀ a, (k0_off39 i arg12_r0) a + S8x2048.size a ≤ S4608x2048.size a := fun i k0_t1 arg8_r0 arg9_r0 arg10_r0 arg11_r0 arg12_r0 k0_hw1 k0_h7 => k0_hw1.2.2.2.2.2.2.2.2.2.2.1 k0_h7
theorem k0_off40_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h7 : k0_cond7 i k0_t1 arg12_r0 = 1#1), ∀ a, (k0_off40 arg11_r0) a + S1.size a ≤ S2.size a := fun i k0_t1 arg8_r0 arg9_r0 arg10_r0 arg11_r0 arg12_r0 k0_hw1 k0_h7 => k0_hw1.2.2.2.2.2.2.2.2.2.2.2 k0_h7

def k0_off41 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off42 (i : grid0.Coords) (v33_4_r0 : BitVec 32) : Fin 2 → Nat :=
  let c8_i32_47_r0 : BitVec 32 := 8#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c17_i32_33_r0 : BitVec 32 := 17#32
  let v37_r0 : BitVec 32 := Scalar.select v36_r0 c17_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c18_i32 : BitVec 32 := 18#32
  let v4 : BitVec 32 := Scalar.muli v3 c18_i32
  let v38_r0 : BitVec 32 := Scalar.addi v37_r0 v4
  let v55_r0 : BitVec 32 := Scalar.muli c8_i32_47_r0 v38_r0
  let c0_i32_50_r0 : BitVec 32 := 0#32
  ![v55_r0.toNat, 0]

def k0_chk13 (i : grid0.Coords) (v33_4_r0 : BitVec 32) : Prop :=
  (∀ a, (k0_off42 i v33_4_r0) a + S8x2048.size a ≤ S4608x2048.size a)
theorem k0_off42_inb : ∀ (i : grid0.Coords) (v33_4_r0 : BitVec 32) (k0_hw13 : k0_chk13 i v33_4_r0), ∀ a, (k0_off42 i v33_4_r0) a + S8x2048.size a ≤ S4608x2048.size a := fun i v33_4_r0 k0_hw13 => k0_hw13

def k0_off43 (v33_3_r0 : BitVec 32) : Fin 1 → Nat :=
  let c2_i32_46_r0 : BitVec 32 := 2#32
  let v54_r0 : BitVec 32 := Scalar.remui v33_3_r0 c2_i32_46_r0
  ![v54_r0.toNat]
def k0_off44 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk12 (v33_3_r0 : BitVec 32) : Prop :=
  (∀ a, (k0_off41 v33_3_r0) a + S1x8x2048.size a ≤ S2x8x2048.size a) ∧
  (∀ a, (k0_off43 v33_3_r0) a + S1.size a ≤ S2.size a) ∧
  (∀ a, (k0_off44 v33_3_r0) a + S1x8x2048.size a ≤ S2x8x2048.size a)
theorem k0_off41_inb : ∀ (v33_3_r0 : BitVec 32) (k0_hw12 : k0_chk12 v33_3_r0), ∀ a, (k0_off41 v33_3_r0) a + S1x8x2048.size a ≤ S2x8x2048.size a := fun v33_3_r0 k0_hw12 => k0_hw12.1
theorem k0_off43_inb : ∀ (v33_3_r0 : BitVec 32) (k0_hw12 : k0_chk12 v33_3_r0), ∀ a, (k0_off43 v33_3_r0) a + S1.size a ≤ S2.size a := fun v33_3_r0 k0_hw12 => k0_hw12.2.1
theorem k0_off44_inb : ∀ (v33_3_r0 : BitVec 32) (k0_hw12 : k0_chk12 v33_3_r0), ∀ a, (k0_off44 v33_3_r0) a + S1x8x2048.size a ≤ S2x8x2048.size a := fun v33_3_r0 k0_hw12 => k0_hw12.2.2

abbrev grid1 : Pipeline.Grid := ⟨1, ![23], ![false]⟩

def cc1_transform_0 (i : grid1.Coords) : Fin 2 → Nat :=
  let arg0 : BitVec 32 := BitVec.ofNat 32 (i 0).val
  let c9_i32 : BitVec 32 := 9#32
  let v0 : BitVec 32 := Scalar.addi arg0 c9_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c9_i32 : BitVec 32 := 9#32
  let v0 : BitVec 32 := Scalar.addi arg0 c9_i32
  let c0_i32 : BitVec 32 := 0#32
  let c0_i32_0 : BitVec 32 := 0#32
  ![v0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x2048 : Shape := ⟨3, ![4, 4096, 2048]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .i32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S1, .i32⟩
  | .hbm, ⟨11, _⟩ => ⟨S_, .i32⟩
  | .hbm, ⟨12, _⟩ => ⟨S2048x1, .i32⟩
  | .hbm, ⟨13, _⟩ => ⟨S2048x1, .i1⟩
  | .hbm, ⟨14, _⟩ => ⟨S1x1, .i32⟩
  | .hbm, ⟨15, _⟩ => ⟨S2048x1, .i32⟩
  | .hbm, ⟨16, _⟩ => ⟨S2048x1, .i1⟩
  | .hbm, ⟨17, _⟩ => ⟨S2048x1, .i1⟩
  | .hbm, ⟨18, _⟩ => ⟨S_, .i1⟩
  | .hbm, ⟨19, _⟩ => ⟨S2048, .i1⟩
  | .hbm, ⟨20, _⟩ => ⟨S4x4096x2048, .f32⟩
  | .hbm, ⟨21, _⟩ => ⟨S4x4096x2048, .i1⟩
  | .hbm, ⟨22, _⟩ => ⟨S_, .f32⟩
  | .hbm, ⟨23, _⟩ => ⟨S4x4096x2048, .f32⟩
  | .hbm, ⟨24, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Trip.lean ====
/-
  Where trip `k` of a tile's pipeline loop stands: the five words the loop carries, as functions of `k`, and
  what the kernel's offsets, conditions and bound checks come to at them.

  A tile copies 18 blocks of 8 rows.  Trip `k` starts the copy of block `k + 1` into an input slot (if there is one),
  waits for block `k`, gathers it into an output slot, starts the copy out of block `k`, and waits for
  the copy out of block `k - 1` (if there is one).  Slot and semaphore of block `k` are number `k % 2`.
-/
module

public import proofs.«01_k».proof.Proof.Gen.KernelIdeal
public import proofs.«01_k».proof.Proof.Gen.KernelIdeal.Skeleton

@[expose] public section

namespace Cert.Proof.Permute

open Cert.KernelIdeal Cert.KernelIdeal.Gen
open Idealize.ShloMosaic

/-- The carried count of input copies started, before trip `k`. -/
def A8 (k : ℕ) : BitVec 32 := BitVec.ofNat 32 (min (k + 1) 18)
/-- The carried count of input copies waited for (and of output copies started), before trip `k`. -/
def A9 (k : ℕ) : BitVec 32 := BitVec.ofNat 32 k
/-- The carried count of output copies waited for, before trip `k`. -/
def A11 (k : ℕ) : BitVec 32 := BitVec.ofNat 32 (k - 1)
/-- The carried number of the block at work, before trip `k`: it wraps to 0 after the last. -/
def A12 (k : ℕ) : BitVec 32 := if k = 18 then 0#32 else BitVec.ofNat 32 k

/-- The loop's carried tuple before trip `k`. -/
abbrev carried (k : ℕ) : BitVec 32 × BitVec 32 × BitVec 32 × BitVec 32 × BitVec 32 := (A8 k, A9 k, A9 k, A11 k, A12 k)

theorem trips1 : k0_t1_loop.trips = 18 := by decide +kernel
theorem trips2 : k0_t2_loop.trips = 128 := by decide +kernel

/-- The first row of the tile at `i`. -/
abbrev base (i : grid0.Coords) : ℕ := 144 * (i 1).val + 2304 * (i 0).val

/-- The word the kernel computes for the tile's first block. -/
abbrev firstBlock (i : grid0.Coords) : BitVec 32 :=
  Scalar.muli (Scalar.addi (Scalar.addi 0#32 (Scalar.muli (BitVec.ofNat 32 (i 1).val) 1#32)) (Scalar.muli (BitVec.ofNat 32 (i 0).val) 16#32)) 18#32

theorem chk4_ok : ∀ k : Fin k0_t1_loop.trips, k0_chk4 (A9 k) := by decide +kernel
theorem chk2_ok : ∀ k : Fin k0_t1_loop.trips, k0_chk2 (A9 k) := by decide +kernel
theorem chk1_ok : ∀ (i : grid0.Coords) (k : Fin k0_t1_loop.trips), k0_chk1 i k (A8 k) (A9 k) (A9 k) (A11 k) (A12 k) := by decide +kernel
theorem chk13_ok : ∀ i : grid0.Coords, k0_chk13 i (A12 18) := by decide +kernel
theorem chk12_ok : k0_chk12 (A11 18) := by decide +kernel

theorem cond1_iff : ∀ (i : grid0.Coords) (k : Fin k0_t1_loop.trips), k0_cond1 i k (A12 k) = 1#1 ↔ k.val < 17 := by decide +kernel
theorem cond2_ok : ∀ (i : grid0.Coords) (k : Fin k0_t1_loop.trips), k0_cond2 i k (A12 k) = 1#1 := by decide +kernel
theorem cond5_ok : ∀ (i : grid0.Coords) (k : Fin k0_t1_loop.trips), k0_cond5 i k (A12 k) = 1#1 := by decide +kernel
theorem cond7_iff : ∀ (i : grid0.Coords) (k : Fin k0_t1_loop.trips), k0_cond7 i k (A12 k) = 1#1 ↔ 0 < k.val := by decide +kernel

theorem off4_at : ∀ k : Fin k0_t1_loop.trips, k0_off4 (A8 k) = ![(k.val + 1) % 2, 0, 0] := by decide +kernel
theorem off6_at : ∀ k : Fin k0_t1_loop.trips, k0_off6 (A8 k) = ![(k.val + 1) % 2] := by decide +kernel
theorem off5_at : ∀ (i : grid0.Coords) (k : Fin k0_t1_loop.trips), k.val < 17 → k0_off5 i (A12 k) = ![base i + 8 * (k.val + 1), 0] := by decide +kernel
theorem off7_at : ∀ k : Fin k0_t1_loop.trips, k0_off7 (A9 k) = ![k.val % 2, 0, 0] := by decide +kernel
theorem off9_at : ∀ k : Fin k0_t1_loop.trips, k0_off9 (A9 k) = ![k.val % 2] := by decide +kernel
theorem off8_at : ∀ (i : grid0.Coords) (k : Fin k0_t1_loop.trips), k0_off8 i (A12 k) = ![base i + 8 * k.val, 0] := by decide +kernel
theorem off35_at : ∀ k : Fin k0_t1_loop.trips, k0_off35 (A9 k) = ![k.val % 2, 0, 0] := by decide +kernel
theorem off37_at : ∀ k : Fin k0_t1_loop.trips, k0_off37 (A9 k) = ![k.val % 2] := by decide +kernel
theorem off36_at : ∀ (i : grid0.Coords) (k : Fin k0_t1_loop.trips), k0_off36 i (A12 k) = ![base i + 8 * k.val, 0] := by decide +kernel
theorem off38_at : ∀ k : Fin k0_t1_loop.trips, k0_off38 (A11 k) = ![(k.val - 1) % 2, 0, 0] := by decide +kernel
theorem off40_at : ∀ k : Fin k0_t1_loop.trips, k0_off40 (A11 k) = ![(k.val - 1) % 2] := by decide +kernel
theorem off39_at : ∀ (i : grid0.Coords) (k : Fin k0_t1_loop.trips), 0 < k.val → k0_off39 i (A12 k) = ![base i + 8 * (k.val - 1), 0] := by decide +kernel
theorem off42_at : ∀ i : grid0.Coords, k0_off42 i (A12 18) = ![base i + 8 * 17, 0] := by decide +kernel
theorem off43_at : k0_off43 (A11 18) = ![1] := by decide +kernel
theorem off44_at : k0_off44 (A11 18) = ![1, 0, 0] := by decide +kernel

/-! The slots the eight gathers of an inner trip read (offsets 11, 14, …) and write (12, 15, …). -/

theorem off11_at : ∀ k : Fin k0_t1_loop.trips, k0_off11 (A9 k) = ![k.val % 2, 0, 0] := by decide +kernel
theorem off14_at : ∀ k : Fin k0_t1_loop.trips, k0_off14 (A9 k) = ![k.val % 2, 0, 0] := by decide +kernel
theorem off17_at : ∀ k : Fin k0_t1_loop.trips, k0_off17 (A9 k) = ![k.val % 2, 0, 0] := by decide +kernel
theorem off20_at : ∀ k : Fin k0_t1_loop.trips, k0_off20 (A9 k) = ![k.val % 2, 0, 0] := by decide +kernel
theorem off23_at : ∀ k : Fin k0_t1_loop.trips, k0_off23 (A9 k) = ![k.val % 2, 0, 0] := by decide +kernel
theorem off26_at : ∀ k : Fin k0_t1_loop.trips, k0_off26 (A9 k) = ![k.val % 2, 0, 0] := by decide +kernel
theorem off29_at : ∀ k : Fin k0_t1_loop.trips, k0_off29 (A9 k) = ![k.val % 2, 0, 0] := by decide +kernel
theorem off32_at : ∀ k : Fin k0_t1_loop.trips, k0_off32 (A9 k) = ![k.val % 2, 0, 0] := by decide +kernel
theorem off12_at : ∀ k : Fin k0_t1_loop.trips, k0_off12 (A9 k) = ![k.val % 2, 0, 0] := by decide +kernel
theorem off15_at : ∀ k : Fin k0_t1_loop.trips, k0_off15 (A9 k) = ![k.val % 2, 0, 0] := by decide +kernel
theorem off18_at : ∀ k : Fin k0_t1_loop.trips, k0_off18 (A9 k) = ![k.val % 2, 0, 0] := by decide +kernel
theorem off21_at : ∀ k : Fin k0_t1_loop.trips, k0_off21 (A9 k) = ![k.val % 2, 0, 0] := by decide +kernel
theorem off24_at : ∀ k : Fin k0_t1_loop.trips, k0_off24 (A9 k) = ![k.val % 2, 0, 0] := by decide +kernel
theorem off27_at : ∀ k : Fin k0_t1_loop.trips, k0_off27 (A9 k) = ![k.val % 2, 0, 0] := by decide +kernel
theorem off30_at : ∀ k : Fin k0_t1_loop.trips, k0_off30 (A9 k) = ![k.val % 2, 0, 0] := by decide +kernel
theorem off33_at : ∀ k : Fin k0_t1_loop.trips, k0_off33 (A9 k) = ![k.val % 2, 0, 0] := by decide +kernel

/-! ## The words computed from one trip for the next -/

section Next
variable (i : grid0.Coords) (k : Fin k0_t1_loop.trips)

/-- The trip number, as the loop passes it. -/
abbrev w7 : BitVec 32 := Scf.iv 0#32 1#32 k
abbrev w64 : BitVec 1 := Scalar.cmpi .eq (w7 k) 0#32
abbrev w65 : BitVec 1 := Scalar.cmpi .eq (w7 k) 17#32
abbrev w66 : BitVec 32 := Scalar.addi (A12 k) (firstBlock i)
abbrev w68 : BitVec 32 := Scalar.select 1#1 (Scalar.subi (A12 k) 1#32) (A12 k)
abbrev w71 : BitVec 32 := Scalar.addi (Scalar.select (Scalar.cmpi .eq (w68 k) 4294967295#32) 17#32 (w68 k)) (firstBlock i)
abbrev w73 : BitVec 32 := Scalar.select 1#1 (Scalar.addi (A12 k) 1#32) (A12 k)
abbrev w76 : BitVec 32 := Scalar.addi (Scalar.select (Scalar.cmpi .eq (w73 k) 18#32) 0#32 (w73 k)) (firstBlock i)
abbrev w85 : BitVec 1 := Scalar.andi (Scalar.cmpi .ne (w66 i k) (w76 i k)) (Scalar.xori (Scalar.cmpi .sge (w7 k) 17#32) 1#1)
abbrev w91 : BitVec 32 := Scalar.select (Scalar.andi (w85 i k) 1#1) (Scalar.addi (A8 k) 1#32) (A8 k)
abbrev w96 : BitVec 1 := Scalar.cmpi .ne (w66 i k) (w71 i k)
abbrev w122 : BitVec 32 := Scalar.select (Scalar.andi (Scalar.ori (Scalar.cmpi .ne (w66 i k) (w76 i k)) (w65 k)) 1#1) (Scalar.addi (A9 k) 1#32) (A9 k)
abbrev w131 : BitVec 1 := Scalar.andi (Scalar.cmpi .ne (w66 i k) (w71 i k)) (Scalar.xori (w64 k) 1#1)
abbrev w136 : BitVec 32 := Scalar.select (Scalar.andi (w131 i k) 1#1) (Scalar.addi (A11 k) 1#32) (A11 k)
abbrev w140 : BitVec 32 := Scalar.select (Scalar.ori (Scalar.cmpi .ne (w66 i k) (w76 i k)) (w65 k)) (Scalar.addi (A9 k) 1#32) (A9 k)
abbrev w144 : BitVec 32 := Scalar.select (Scalar.cmpi .eq (w73 k) 18#32) 0#32 (w73 k)

end Next

theorem next_eq : ∀ (i : grid0.Coords) (k : Fin k0_t1_loop.trips), (w91 i k, w140 i k, w122 i k, w136 i k, w144 k) = carried (k.val + 1) := by decide +kernel

end Cert.Proof.Permute
-- ==== Proof.Setup.lean ====
/-
  The kernel as the launch theorem sees it, the resource algebra its proof uses, and the memories a tile works on:
  its copy of the permutation, its two input slots and its two output slots of 8 rows, and the counters of their copies.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Transfers
public import Idealize.ShloMosaic.Lib.Memref
public import Idealize.ShloMosaic.Lib.ValueIdxCore
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Trip

@[expose] public section

noncomputable section

namespace Cert.Proof.Permute

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake's semaphores are distinct and none is a scoped one; no buffer is shared by two tiles of a core. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelined region's rounds, the local copies' counters -/

abbrev UH : Type := URounds (GSem nD τ sig) ℕ
abbrev UP : Type := UR sig nD τ
abbrev UU : Type := UH × (UP × Counters)

local notation "𝕄" => MT nD τ sig (HIx 1) (Elt F) ℕ UU ℕ

/-- The handshakes' component of the algebra. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The pipelined region's component of the algebra. -/
def EP : Emb UP (MT nD τ sig (HIx 1) (Elt F) ℕ UU ℕ) :=
  (Emb.inl : Emb UP (UP × Counters)).trans
    ((Emb.inr : Emb (UP × Counters) UU).trans
      (uEmb (nD := nD) (sig := sig) (Ix := HIx 1) (Val := Elt F) (Name := ℕ) (U := UU) (Lvl := ℕ)).toEmb)

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-- The local copies' counters. -/
abbrev EC : UEmb Counters 𝕄 := countersEmb

/-! ## A tile's thread and memories -/

abbrev cV (L : grid0.Coords) : Fin τ.nSC := (L 0).castLE hcore0
abbrev jV (L : grid0.Coords) : Fin τ.nSub := (L 1).castLE hsub0
/-- The thread of the tile at `L`. -/
abbrev tile (d : Dev nD) (L : grid0.Coords) : Thread nD τ := V d (cV L) (jV L)

/-- The kernel's operands in HBM: the input, the permutation, the output. -/
abbrev xV : Memref sig .scVector .hbm S16384x2048 .f32 := Memref.whole main_v0_scv
abbrev pV : Memref sig .scVector .hbm S2048 .i32 := Memref.whole main_arg1_scv
abbrev oV : Memref sig .scVector .hbm S4608x2048 .f32 := Memref.whole main_v1_scv
/-- A tile's scratches: the permutation, the input slots, the output slots. -/
abbrev sP : Memref sig .scVector .vmem S2048 .i32 := Memref.whole cc0_scratch0
abbrev sIn : Memref sig .scVector .vmem S2x8x2048 .f32 := Memref.whole cc0_scoped0
abbrev sOut : Memref sig .scVector .vmem S2x8x2048 .f32 := Memref.whole cc0_scoped2

/-- A slot of the input buffer, at the offsets given. -/
abbrev inM (off : Fin 3 → ℕ) (h : ∀ a, off a + S1x8x2048.size a ≤ S2x8x2048.size a) : Memref sig .scVector .vmem S8x2048 .f32 :=
  (sIn.slice (Rect.unit (s := S2x8x2048) off S1x8x2048.size h) (fun _ => rfl)).squeeze S8x2048 squeezes_S1x8x2048_S8x2048
/-- A slot of the output buffer, at the offsets given. -/
abbrev outM (off : Fin 3 → ℕ) (h : ∀ a, off a + S1x8x2048.size a ≤ S2x8x2048.size a) : Memref sig .scVector .vmem S8x2048 .f32 :=
  (sOut.slice (Rect.unit (s := S2x8x2048) off S1x8x2048.size h) (fun _ => rfl)).squeeze S8x2048 squeezes_S1x8x2048_S8x2048
/-- 8 rows of the input, at the offsets given. -/
abbrev xM (off : Fin 2 → ℕ) (h : ∀ a, off a + S8x2048.size a ≤ S16384x2048.size a) : Memref sig .scVector .hbm S8x2048 .f32 :=
  xV.slice (Rect.unit (s := S16384x2048) off S8x2048.size h) (fun _ => rfl)
/-- 8 rows of the output, at the offsets given. -/
abbrev oM (off : Fin 2 → ℕ) (h : ∀ a, off a + S8x2048.size a ≤ S4608x2048.size a) : Memref sig .scVector .hbm S8x2048 .f32 :=
  oV.slice (Rect.unit (s := S4608x2048) off S8x2048.size h) (fun _ => rfl)
/-- The counter of an input slot's copy, at the offset given. -/
abbrev inSem (off : Fin 1 → ℕ) (h : ∀ a, off a + S1.size a ≤ S2.size a) : DmaSems sig S_ :=
  (cc0_scoped1.slice (Rect.unit (s := S2) off S1.size h)).squeeze S_ squeezes_S1_S_
/-- The counter of an output slot's copy, at the offset given. -/
abbrev outSem (off : Fin 1 → ℕ) (h : ∀ a, off a + S1.size a ≤ S2.size a) : DmaSems sig S_ :=
  (cc0_scoped3.slice (Rect.unit (s := S2) off S1.size h)).squeeze S_ squeezes_S1_S_

theorem slot_inb {p : ℕ} (h : p < 2) : ∀ a, (![p, 0, 0] : Fin 3 → ℕ) a + S1x8x2048.size a ≤ S2x8x2048.size a := by
  intro a; fin_cases a <;> simp <;> omega
theorem sem_inb {p : ℕ} (h : p < 2) : ∀ a, (![p] : Fin 1 → ℕ) a + S1.size a ≤ S2.size a := by
  intro a; fin_cases a; simp; omega
theorem xrow_inb {r : ℕ} (h : r + 8 ≤ 16384) : ∀ a, (![r, 0] : Fin 2 → ℕ) a + S8x2048.size a ≤ S16384x2048.size a := by
  intro a; fin_cases a <;> simp <;> omega
theorem orow_inb {r : ℕ} (h : r + 8 ≤ 4608) : ∀ a, (![r, 0] : Fin 2 → ℕ) a + S8x2048.size a ≤ S4608x2048.size a := by
  intro a; fin_cases a <;> simp <;> omega

/-- Input slot `p`, output slot `p`, and their counters. -/
abbrev inS (p : Fin 2) : Memref sig .scVector .vmem S8x2048 .f32 := inM ![p.val, 0, 0] (slot_inb p.isLt)
abbrev outS (p : Fin 2) : Memref sig .scVector .vmem S8x2048 .f32 := outM ![p.val, 0, 0] (slot_inb p.isLt)
abbrev inC (p : Fin 2) : DmaSem sig := (inSem ![p.val] (sem_inb p.isLt)).sem
abbrev outC (p : Fin 2) : DmaSem sig := (outSem ![p.val] (sem_inb p.isLt)).sem

/-! ## The value -/

/-- The source column the permutation names for column `c`. -/
def pick (p : S2048.Idx → BitVec 32) (c : Fin 2048) : Fin 2048 := ⟨(p (ix1 c)).toNat % 2048, Nat.mod_lt _ (by decide)⟩

/-- A block of 8 rows with its columns taken at the permutation. -/
def gathered {α : Type} (X : S8x2048.Idx → α) (p : S2048.Idx → BitVec 32) (j : S8x2048.Idx) : α :=
  X (ix2 (n0 := 8) (n1 := 2048) (j 0) (pick p (j 1)))

end Cert.Proof.Permute
-- ==== Proof.Gather.lean ====
/-
  One block of 8 rows gathered: from an input slot holding `X` and the permutation `p` in the tile's scratch, the inner
  loop leaves the output slot at `gathered X p`.  Trip `g` reads 16 words of the permutation and, row by row, gathers
  16 elements of the input slot at them and stores them in columns `16 g` to `16 g + 15` of the output slot.
-/
module

public import proofs.«01_k».proof.Proof.Setup

@[expose] public section

noncomputable section

namespace Cert.Proof.Permute

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-! ## Loads and stores of a memref owned at known contents -/

section Steps

variable {Val : EltTy → Type} {Λ : Labels} {defs : Defs nD τ sig Val Λ}
variable (𝒱' : Variants) (c : Thread nD τ) (bd : Option 𝒱'.V)
variable {s : Shape} {e : EltTy} {α : Type} {Q : α → sProp (MT nD τ sig (HIx 1) Val ℕ UU ℕ)}

/-- A load of a rectangle of a memref owned at `X` reads `X` there. -/
theorem load_owns {cs : CoreSpace} {M : Memref sig c.2.kind cs s e} {r : Rect s} {hl : M.view.LoadsAt r.toLoadRect}
    {k : (r.shape.Idx → Val e) → Prog (TpuEff nD τ sig Val Λ c.2) α} {q : PosShare TreeShare} {X : s.Idx → Val e} :
    (owns c M q X : sProp (MT nD τ sig (HIx 1) Val ℕ UU ℕ))
      ⊢ iprop((owns c M q X -∗ wp frame (wpE defs 𝒱' c bd) Set.univ (k fun x => X (r.emb x)) Q)
          -∗ wp frame (wpE defs 𝒱' c bd) Set.univ (.op (.load M r.toLoadRect hl) k) Q) := by
  iintro H Hk
  ihave H' := (show owns c M q X ⊢ iprop(∃ g, ⌜M.view.read Val g = X⌝ ∗ M.view.loc c ↦[M.view.set]{q} g) from .rfl) $$ H
  icases H' with ⟨%g, %hg, H⟩
  ihave Hw := (wp_load_rect (defs := defs) 𝒱' c bd Set.univ (m := M) (r := r) (hl := hl) (k := k) (Q := Q) (S := M.view.set) (q := q) (f := g)
    (M.view.set_slice_subset r)) $$ H
  iapply Hw
  iintro H
  have e1 : ((M.access r).read Val g) = fun x => X (r.emb x) := by funext x; rw [← hg]; rfl
  rw [e1]
  iapply Hk
  unfold owns; iexists g; isplitr
  · ipureintro; exact hg
  · iexact H

/-- An indexed load of a memref owned at `X` reads `X` at the indices. -/
theorem gather_owns {defs' : Defs nD τ sig (Elt F) Λ} {Q' : α → sProp (MT nD τ sig (HIx 1) (Elt F) ℕ UU ℕ)} {t : Shape}
    {M : Memref sig c.2.kind .vmem s e} {idxs : Fin s.rank → IVec t 32}
    {h : ∀ a x, (idxs a x).toNat < s.size a} {hl : M.view.Loads}
    {k : Vec F t e → Prog (TpuEff nD τ sig (Elt F) Λ c.2) α} {q : PosShare TreeShare} {X : s.Idx → Elt F e} :
    (owns (Val := Elt F) c M q X : sProp 𝕄)
      ⊢ iprop((owns (Val := Elt F) c M q X -∗ wp frame (wpE defs' 𝒱' c bd) Set.univ (k (loadIdx (F := F) X idxs h)) Q')
          -∗ wp frame (wpE defs' 𝒱' c bd) Set.univ (SparseCore.vectorLoadIdx M idxs h hl >>= k) Q') := by
  rw [SparseCore.vectorLoadIdx_bind]
  have e1 : (fun x => X ((Rect.whole s).emb x)) = X := by
    funext x; congr 1; funext a; exact Fin.ext (by show 0 + 1 * (x a).val = (x a).val; omega)
  have := load_owns (Val := Elt F) (defs := defs') 𝒱' c bd (Q := Q') (cs := .vmem) (M := M) (r := Rect.whole s) (hl := View.loadsAt_whole hl)
    (k := fun f => k (loadIdx (F := F) f idxs h)) (q := q) (X := X)
  rw [e1] at this
  exact this

/-- A store of a rectangle of a memref owned outright at `X` leaves the memref at `X` with the rectangle's part replaced. -/
theorem store_owns {cs : CoreSpace} {M : Memref sig c.2.kind cs s e} {r : Rect s} {w : r.shape.Idx → Val e}
    {hx : (M.access r).Stores Finset.univ} {hm : (Finset.univ : Finset r.shape.Idx) = Finset.univ ∨ ∀ a, r.stride a = 1}
    {k : PUnit → Prog (TpuEff nD τ sig Val Λ c.2) α} {X : s.Idx → Val e} :
    (owns c M fullShare X : sProp (MT nD τ sig (HIx 1) Val ℕ UU ℕ))
      ⊢ iprop((owns c M fullShare (r.overlay X w) -∗ wp frame (wpE defs 𝒱' c bd) Set.univ (k ⟨⟩) Q)
          -∗ wp frame (wpE defs 𝒱' c bd) Set.univ (.op (.store M r w Finset.univ hx hm) k) Q) := by
  iintro H Hk
  ihave H' := (show owns c M fullShare X ⊢ iprop(∃ g, ⌜M.view.read Val g = X⌝ ∗ M.view.loc c ↦[M.view.set]{fullShare} g) from .rfl) $$ H
  icases H' with ⟨%g, %hg, H⟩
  ihave Hw := (wp_store (defs := defs) 𝒱' c bd Set.univ (m := M) (r := r) (w := w) (Mk := Finset.univ) (hx := hx) (hm := hm) (k := k) (Q := Q)
    (S := M.view.set) (f := g) ((View.setOn_subset_set _ _).trans (M.view.set_slice_subset r))) $$ H
  iapply Hw
  iintro H
  iapply Hk
  unfold owns; iexists ((M.access r).write Val g w Finset.univ); isplitr
  · ipureintro
    funext j
    by_cases hj : j ∈ r.set
    · rw [← Rect.map_emb_univ] at hj
      obtain ⟨i, -, rfl⟩ := Finset.mem_map.mp hj
      rw [Rect.overlay_emb]
      exact View.read_slice_write_emb _ _ _ (Finset.mem_univ _)
    · rw [Rect.overlay_of_not_mem _ _ _ hj, ← hg]
      exact View.read_slice_write_of_not_mem _ _ _ _ (by rw [Rect.map_emb_univ]; exact hj)
  · iexact H

end Steps

/-! ## The contents of a slot as the block is gathered -/

section Pure

variable {α : Type}

/-- `v` is the permutation's words `16 g` to `16 g + 15`. -/
def WordsAt (p : S2048.Idx → BitVec 32) (g : ℕ) (v : S16.Idx → BitVec 32) : Prop :=
  ∀ (x : S16.Idx) (c : Fin 2048), c.val = 16 * g + (x 0).val → v x = p (ix1 c)

/-- `u` is columns `16 g` to `16 g + 15` of row `r` of the gathered block. -/
def RowAt (X : S8x2048.Idx → α) (p : S2048.Idx → BitVec 32) (g r : ℕ) (u : S16.Idx → α) : Prop :=
  ∀ (x : S16.Idx) (j : S8x2048.Idx), (j 0).val = r → (j 1).val = 16 * g + (x 0).val → u x = gathered X p j

/-- `Y` is the gathered block in its first `16 g` columns, and in its first `r` rows of the next 16. -/
def Filled (X : S8x2048.Idx → α) (p : S2048.Idx → BitVec 32) (g r : ℕ) (Y : S8x2048.Idx → α) : Prop :=
  ∀ j : S8x2048.Idx, (j 1).val < 16 * g ∨ ((j 1).val < 16 * (g + 1) ∧ (j 0).val < r) → Y j = gathered X p j

variable {X : S8x2048.Idx → α} {p : S2048.Idx → BitVec 32} {g r : ℕ}

theorem filled_zero (Y : S8x2048.Idx → α) : Filled X p 0 0 Y := by
  intro j h; omega

theorem filled_next {Y : S8x2048.Idx → α} (h : Filled X p g 8 Y) : Filled X p (g + 1) 0 Y := by
  intro j hj
  have h0 : (j 0).val < 8 := (j 0).isLt
  exact h j (by omega)

theorem filled_all {Y : S8x2048.Idx → α} (h : Filled X p 128 0 Y) : Y = gathered X p := by
  funext j
  have h1 : (j 1).val < 2048 := (j 1).isLt
  exact h j (by omega)

/-- The words of the permutation, all below 2048, and a row below 8 index a slot. -/
theorem idx_ok {v : S16.Idx → BitVec 32} (hv : WordsAt p g v) (hg : g < 128) (hp : ∀ c, (p c).toNat < 2048)
    {w : BitVec 32} (hw : w.toNat < 8) :
    ∀ a x, ((![broadcast S16 w, v] : Fin 2 → IVec S16 32) a x).toNat < S8x2048.size a := by
  intro a x
  have hx : (x 0).val < 16 := (x 0).isLt
  match a with
  | ⟨0, _⟩ => exact hw
  | ⟨1, _⟩ =>
    show (v x).toNat < 2048
    rw [hv x ⟨16 * g + (x 0).val, by omega⟩ rfl]
    exact hp _

/-- Gathering at those indices gives the gathered block's row. -/
theorem rowAt_loadIdx {X : S8x2048.Idx → F .f32} {v : S16.Idx → BitVec 32} (hv : WordsAt p g v) (hp : ∀ c, (p c).toNat < 2048)
    {w : BitVec 32} (hw : w.toNat = r) (h : ∀ a x, ((![broadcast S16 w, v] : Fin 2 → IVec S16 32) a x).toNat < S8x2048.size a) :
    RowAt X p g r (loadIdx (F := F) (e := .f32) X (![broadcast S16 w, v] : Fin 2 → IVec S16 32) h) := by
  intro x j h0 h1
  show X _ = X _
  congr 1
  funext a
  match a with
  | ⟨0, _⟩ => exact Fin.ext (hw.trans h0.symm)
  | ⟨1, _⟩ =>
    refine Fin.ext ?_
    show (v x).toNat = (p (ix1 (j 1))).toNat % 2048
    rw [hv x (j 1) h1, Nat.mod_eq_of_lt (hp _)]

theorem cast_col : ∀ x : S1x16.Idx, (Shape.reshapeEquiv shapeCasts_S16_S1x16 x 0).val = (x 1).val := by decide +kernel

/-- Storing the row's 16 elements in place. -/
theorem filled_store {Y : S8x2048.Idx → α} (hY : Filled X p g r Y) {u : S16.Idx → α} (hu : RowAt X p g r u)
    {off : Fin 2 → ℕ} (hoff : off = ![r, 16 * g]) (inb : ∀ a, off a + S1x16.size a ≤ S8x2048.size a) :
    Filled X p g (r + 1) ((Rect.unit (s := S8x2048) off S1x16.size inb).overlay Y (shapeCast S1x16 u shapeCasts_S16_S1x16)) := by
  subst hoff
  intro j hj
  by_cases hm : j ∈ (Rect.unit (s := S8x2048) ![r, 16 * g] S1x16.size inb).set
  · rw [← Rect.map_emb_univ] at hm
    obtain ⟨y, -, rfl⟩ := Finset.mem_map.mp hm
    rw [Rect.overlay_emb]
    refine hu _ _ ?_ ?_
    · have hy : (y 0).val < 1 := (y 0).isLt
      show r + 1 * (y 0).val = r
      omega
    · rw [cast_col y]
      show 16 * g + 1 * (y 1).val = _
      omega
  · rw [Rect.overlay_of_not_mem _ _ _ hm]
    refine hY j ?_
    rw [Rect.mem_set_unit] at hm
    by_contra hc
    refine hm (Fin.forall_fin_two.mpr ⟨?_, ?_⟩)
    · show r ≤ (j 0).val ∧ (j 0).val < r + 1
      omega
    · show 16 * g ≤ (j 1).val ∧ (j 1).val < 16 * g + 16
      omega

end Pure

/-! ## One row of one trip -/

section Row

variable (d : Dev nD) (i : grid0.Coords) (b : Fin 2) (X : S8x2048.Idx → F .f32) (p : S2048.Idx → BitVec 32)
variable {α : Type}

/-- Output slot `b`, filled as far as row `r` of trip `g`. -/
def outHas (g r : ℕ) : sProp 𝕄 :=
  iprop(∃ Y : S8x2048.Idx → F .f32, ⌜Filled X p g r Y⌝ ∗ owns (Val := Elt F) (tile d i) (outS b) fullShare Y)

/-- Row `r`'s 16 elements gathered from the input slot. -/
theorem gather_step {g : ℕ} {v : S16.Idx → BitVec 32} (hv : WordsAt p g v) (hp : ∀ c, (p c).toNat < 2048)
    {w : BitVec 32} {r : ℕ} (hw : w.toNat = r) {off : Fin 3 → ℕ} (hoff : off = ![b.val, 0, 0])
    {h : ∀ a, off a + S1x8x2048.size a ≤ S2x8x2048.size a}
    {hh : ∀ a x, ((![broadcast S16 w, v] : Fin 2 → IVec S16 32) a x).toNat < S8x2048.size a} {hl : (inM off h).view.Loads}
    {k : Vec F S16 .f32 → Prog (TpuEff nD τ sig (Elt F) Λ₀ (tile d i).2) α} {Q : α → sProp 𝕄} :
    (owns (Val := Elt F) (tile d i) (inS b) fullShare X : sProp 𝕄)
      ⊢ iprop((∀ u : Vec F S16 .f32, ⌜RowAt X p g r u⌝ -∗ owns (Val := Elt F) (tile d i) (inS b) fullShare X
            -∗ wp frame (wpE (defs₀ (F := F)) 𝒱₀ (tile d i) none) Set.univ (k u) Q)
          -∗ wp frame (wpE (defs₀ (F := F)) 𝒱₀ (tile d i) none) Set.univ
              (SparseCore.vectorLoadIdx (inM off h) (![broadcast S16 w, v] : Fin 2 → IVec S16 32) hh hl >>= k) Q) := by
  subst hoff
  iintro H Hk
  iapply (gather_owns (defs' := defs₀ (F := F)) 𝒱₀ (tile d i) none (M := inS b)) $$ H
  iintro H
  ihave Hk := Hk $$ %(loadIdx (F := F) (e := .f32) X (![broadcast S16 w, v] : Fin 2 → IVec S16 32) hh)
  iapply Hk
  · ipureintro; exact rowAt_loadIdx hv hp hw hh
  · iexact H

/-- Row `r`'s 16 elements stored in the output slot. -/
theorem store_step {g r : ℕ} {u : S16.Idx → F .f32} (hu : RowAt X p g r u) {off : Fin 3 → ℕ} (hoff : off = ![b.val, 0, 0])
    {h : ∀ a, off a + S1x8x2048.size a ≤ S2x8x2048.size a} {off' : Fin 2 → ℕ} (hoff' : off' = ![r, 16 * g])
    {inb : ∀ a, off' a + S1x16.size a ≤ S8x2048.size a}
    {hl : (outM off h).view.LoadsAt (Rect.unit (s := S8x2048) off' S1x16.size inb).toLoadRect}
    {hx : ((outM off h).access (Rect.unit (s := S8x2048) off' S1x16.size inb)).Stores Finset.univ}
    {hm : (Finset.univ : Finset (Rect.unit (s := S8x2048) off' S1x16.size inb).shape.Idx) = Finset.univ ∨ ∀ a, (Rect.unit (s := S8x2048) off' S1x16.size inb).stride a = 1}
    {k : PUnit → Prog (TpuEff nD τ sig (Elt F) Λ₀ (tile d i).2) α} {Q : α → sProp 𝕄} :
    outHas d i b X p g r
      ⊢ iprop((outHas d i b X p g (r + 1) -∗ wp frame (wpE (defs₀ (F := F)) 𝒱₀ (tile d i) none) Set.univ (k ⟨⟩) Q)
          -∗ wp frame (wpE (defs₀ (F := F)) 𝒱₀ (tile d i) none) Set.univ
              (.op (.load (outM off h) (Rect.unit (s := S8x2048) off' S1x16.size inb).toLoadRect hl) fun _ =>
                .op (.store (outM off h) (Rect.unit (s := S8x2048) off' S1x16.size inb) (shapeCast S1x16 u shapeCasts_S16_S1x16) Finset.univ hx hm) k) Q) := by
  subst hoff
  unfold outHas
  iintro ⟨%Y, %hY, H⟩ Hk
  iapply (load_owns (defs := defs₀ (F := F)) 𝒱₀ (tile d i) none (cs := .vmem) (M := outS b) (r := Rect.unit (s := S8x2048) off' S1x16.size inb)) $$ H
  iintro H
  iapply (store_owns (defs := defs₀ (F := F)) 𝒱₀ (tile d i) none (cs := .vmem) (M := outS b) (r := Rect.unit (s := S8x2048) off' S1x16.size inb)) $$ H
  iintro H
  iapply Hk
  iexists _
  isplitr
  · ipureintro; exact filled_store hY hu hoff' inb
  · iexact H

end Row

/-! ## One trip of the gather loop -/

section Trip

variable (d : Dev nD) (i : grid0.Coords) (k : Fin k0_t1_loop.trips) (X : S8x2048.Idx → F .f32) (p : S2048.Idx → BitVec 32)

/-- The slot trip `k` of the pipeline loop works on. -/
abbrev par (k : Fin k0_t1_loop.trips) : Fin 2 := ⟨k.val % 2, Nat.mod_lt _ (by decide)⟩

/-- The tile's copy of the permutation, and input slot `b` holding `X`. -/
def permHas : sProp 𝕄 := owns (Val := Elt F) (tile d i) sP fullShare p
def inHas (b : Fin 2) : sProp 𝕄 := owns (Val := Elt F) (tile d i) (inS b) fullShare X

theorem words_at (g : Fin k0_t2_loop.trips) :
    WordsAt p g.val (fun x => p ((Rect.unit (s := S2048) (k0_off10 g) S16.size (k0_off10_inb g)).emb x)) := by
  intro x c hc
  show p _ = p _
  congr 1
  funext a
  match a with
  | ⟨0, _⟩ =>
    refine Fin.ext ?_
    show k0_off10 g 0 + 1 * (x 0).val = c.val
    rw [k0_off10_eq, hc]
    show 16 * g.val + 1 * (x 0).val = _
    omega

variable (h4 : k0_chk4 (A9 k)) (h2 : k0_chk2 (A9 k)) (hp : ∀ c, (p c).toNat < 2048) (g : Fin k0_t2_loop.trips)
include hp

/-- The first part of a trip: the words read, rows 0 and 1 gathered and stored, row 2 gathered. -/
theorem part1_spec :
    iprop(permHas d i p ∗ inHas d i X (par k) ∗ outHas d i (par k) X p g.val 0)
      ⊢ wp frame (wpE (defs₀ (F := F)) 𝒱₀ (tile d i) none) Set.univ
          (k0_part1 i xV (Memref.isWhole_whole _) pV (Memref.isWhole_whole _) oV (Memref.isWhole_whole _) sP (Memref.isWhole_whole _) cc0_scratch1
            sIn (Memref.isWhole_whole _) cc0_scoped1 sOut (Memref.isWhole_whole _) cc0_scoped3 (A9 k) (A9 k) h4 h2 0#32 1#32 g)
          fun r => iprop(⌜WordsAt p g.val r.2.1 ∧ RowAt X p g.val 2 r.2.2.1⌝
            ∗ permHas d i p ∗ inHas d i X (par k) ∗ outHas d i (par k) X p g.val 2) := by
  have hg : g.val < 128 := trips2 ▸ g.isLt
  simp only [k0_part1_eq_skeleton]; unfold k0_part1_skel
  simp only [Prog.lift, Prog.bind_op, Prog.bind_ret, Prog.pure_eq_ret]
  unfold permHas inHas
  iintro ⟨Hp, Hi, Ho⟩
  iapply (load_owns (defs := defs₀ (F := F)) 𝒱₀ (tile d i) none (cs := .vmem) (M := sP)) $$ Hp
  iintro Hp
  have hv := words_at p g
  have hx0 : k0_chk3 _ (broadcast S16 0#32) := idx_ok hv hg hp (w := 0#32) (by decide)
  iapply (wp_assume 𝒱₀ _ none Set.univ hx0)
  iapply (gather_step d i (par k) X p hv hp (w := 0#32) (r := 0) (by decide) (off11_at k)) $$ Hi
  iintro %u0 %hu0 Hi
  iapply (store_step d i (par k) X p (r := 0) hu0 (off12_at k) (k0_off13_eq g)) $$ Ho
  iintro Ho
  have hx1 : k0_chk5 _ (broadcast S16 1#32) := idx_ok hv hg hp (w := 1#32) (by decide)
  iapply (wp_assume 𝒱₀ _ none Set.univ hx1)
  iapply (gather_step d i (par k) X p hv hp (w := 1#32) (r := 1) (by decide) (off14_at k)) $$ Hi
  iintro %u1 %hu1 Hi
  iapply (store_step d i (par k) X p (r := 1) hu1 (off15_at k) (k0_off16_eq g)) $$ Ho
  iintro Ho
  have hx2 : k0_chk6 _ (broadcast S16 2#32) := idx_ok hv hg hp (w := 2#32) (by decide)
  iapply (wp_assume 𝒱₀ _ none Set.univ hx2)
  iapply (gather_step d i (par k) X p hv hp (w := 2#32) (r := 2) (by decide) (off17_at k)) $$ Hi
  iintro %u2 %hu2 Hi
  rw [wp_ret]; imodintro
  isplitr
  · ipureintro; exact ⟨hv, hu2⟩
  isplitl [Hp]; · iexact Hp
  isplitl [Hi]; · iexact Hi
  iexact Ho

/-- The second part: row 2 stored, rows 3 and 4 gathered and stored, row 5 gathered. -/
theorem part2_spec {v : Vec F S16 .i32} (hv : WordsAt p g.val v) {u2 : Vec F S16 .f32} (hu2 : RowAt X p g.val 2 u2) (w w' w'' : BitVec 32) :
    iprop(inHas d i X (par k) ∗ outHas d i (par k) X p g.val 2)
      ⊢ wp frame (wpE (defs₀ (F := F)) 𝒱₀ (tile d i) none) Set.univ
          (k0_part2 i xV (Memref.isWhole_whole _) pV (Memref.isWhole_whole _) oV (Memref.isWhole_whole _) sP (Memref.isWhole_whole _) cc0_scratch1
            sIn (Memref.isWhole_whole _) cc0_scoped1 sOut (Memref.isWhole_whole _) cc0_scoped3 (A9 k) (A9 k) h4 h2 g w v u2 w' w'')
          fun r => iprop(⌜RowAt X p g.val 5 r.1⌝ ∗ inHas d i X (par k) ∗ outHas d i (par k) X p g.val 5) := by
  have hg : g.val < 128 := trips2 ▸ g.isLt
  simp only [k0_part2_eq_skeleton]; unfold k0_part2_skel
  simp only [Prog.lift, Prog.bind_op, Prog.bind_ret, Prog.pure_eq_ret]
  unfold inHas
  iintro ⟨Hi, Ho⟩
  iapply (store_step d i (par k) X p (r := 2) hu2 (off18_at k) (k0_off19_eq g)) $$ Ho
  iintro Ho
  have hx3 : k0_chk7 _ (broadcast S16 3#32) := idx_ok hv hg hp (w := 3#32) (by decide)
  iapply (wp_assume 𝒱₀ _ none Set.univ hx3)
  iapply (gather_step d i (par k) X p hv hp (w := 3#32) (r := 3) (by decide) (off20_at k)) $$ Hi
  iintro %u3 %hu3 Hi
  iapply (store_step d i (par k) X p (r := 3) hu3 (off21_at k) (k0_off22_eq g)) $$ Ho
  iintro Ho
  have hx4 : k0_chk8 _ (broadcast S16 4#32) := idx_ok hv hg hp (w := 4#32) (by decide)
  iapply (wp_assume 𝒱₀ _ none Set.univ hx4)
  iapply (gather_step d i (par k) X p hv hp (w := 4#32) (r := 4) (by decide) (off23_at k)) $$ Hi
  iintro %u4 %hu4 Hi
  iapply (store_step d i (par k) X p (r := 4) hu4 (off24_at k) (k0_off25_eq g)) $$ Ho
  iintro Ho
  have hx5 : k0_chk9 _ (broadcast S16 5#32) := idx_ok hv hg hp (w := 5#32) (by decide)
  iapply (wp_assume 𝒱₀ _ none Set.univ hx5)
  iapply (gather_step d i (par k) X p hv hp (w := 5#32) (r := 5) (by decide) (off26_at k)) $$ Hi
  iintro %u5 %hu5 Hi
  rw [wp_ret]; imodintro
  isplitr
  · ipureintro; exact hu5
  isplitl [Hi]; · iexact Hi
  iexact Ho

/-- A whole trip fills 16 more columns of the output slot. -/
theorem trip_spec (h1 : k0_chk1 i k (A8 k) (A9 k) (A9 k) (A11 k) (A12 k)) (w7 : BitVec 32) (w64 w65 : BitVec 1) (w66 w71 w76 : BitVec 32) (w96 : BitVec 1) :
    iprop(permHas d i p ∗ inHas d i X (par k) ∗ outHas d i (par k) X p g.val 0)
      ⊢ wp frame (wpE (defs₀ (F := F)) 𝒱₀ (tile d i) none) Set.univ
          (k0_t2_body i xV (Memref.isWhole_whole _) pV (Memref.isWhole_whole _) oV (Memref.isWhole_whole _) sP (Memref.isWhole_whole _) cc0_scratch1
            sIn (Memref.isWhole_whole _) cc0_scoped1 sOut (Memref.isWhole_whole _) cc0_scoped3
            k (A8 k) (A9 k) (A9 k) (A11 k) (A12 k) h4 h2 h1 w7 w64 w65 w66 w71 w76 w96 g ())
          fun _ => iprop(permHas d i p ∗ inHas d i X (par k) ∗ outHas d i (par k) X p (g.val + 1) 0) := by
  have hg : g.val < 128 := trips2 ▸ g.isLt
  unfold k0_t2_body
  rw [wp_bind]
  refine (part1_spec d i k X p h4 h2 hp g).trans (wp_mono frame _ _ fun r => ?_)
  rw [wp_bind]
  iintro ⟨%hr, Hp, Hi, Ho⟩
  obtain ⟨hv, hu2⟩ := hr
  ihave Hw := (part2_spec d i k X p h4 h2 hp g hv hu2 r.1 r.2.2.2.1 r.2.2.2.2) $$ [Hi Ho]
  · isplitl [Hi] <;> iassumption
  iapply wp_wand_r
  isplitl [Hw]; · iexact Hw
  iintro %s ⟨%hu5, Hi, Ho⟩
  simp only [Prog.lift, Prog.bind_op, Prog.bind_ret, Prog.pure_eq_ret]
  unfold inHas
  iapply (store_step d i (par k) X p (r := 5) hu5 (off27_at k) (k0_off28_eq g)) $$ Ho
  iintro Ho
  have hx6 : k0_chk10 _ (broadcast S16 6#32) := idx_ok hv hg hp (w := 6#32) (by decide)
  iapply (wp_assume 𝒱₀ _ none Set.univ hx6)
  iapply (gather_step d i (par k) X p hv hp (w := 6#32) (r := 6) (by decide) (off29_at k)) $$ Hi
  iintro %u6 %hu6 Hi
  iapply (store_step d i (par k) X p (r := 6) hu6 (off30_at k) (k0_off31_eq g)) $$ Ho
  iintro Ho
  have hx7 : k0_chk11 _ (broadcast S16 7#32) := idx_ok hv hg hp (w := 7#32) (by decide)
  iapply (wp_assume 𝒱₀ _ none Set.univ hx7)
  iapply (gather_step d i (par k) X p hv hp (w := 7#32) (r := 7) (by decide) (off32_at k)) $$ Hi
  iintro %u7 %hu7 Hi
  iapply (store_step d i (par k) X p (r := 7) hu7 (off33_at k) (k0_off34_eq g)) $$ Ho
  iintro Ho
  rw [wp_ret]; imodintro
  isplitl [Hp]; · iexact Hp
  isplitl [Hi]; · iexact Hi
  unfold outHas
  icases Ho with ⟨%Y, %hY, Ho⟩
  iexists Y
  isplitr
  · ipureintro; exact filled_next hY
  · iexact Ho

end Trip

end Cert.Proof.Permute
-- ==== Proof.Copies.lean ====
/-
  The copies of a tile's pipeline loop: 8 rows of the input into an input slot, an output slot into 8 rows of the output,
  each as one rule for its start and one for its wait.  A started copy holds its slot and its rows until the wait.
-/
module

public import proofs.«01_k».proof.Proof.Setup

@[expose] public section

noncomputable section

namespace Cert.Proof.Permute

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-! ## Rows of the input and of the output -/

/-- Rows `a` to `b - 1` of the input, and of the output. -/
def xrows (a b : ℕ) : Finset S16384x2048.Idx := Finset.univ.filter fun j => a ≤ (j 0).val ∧ (j 0).val < b
def orows (a b : ℕ) : Finset S4608x2048.Idx := Finset.univ.filter fun j => a ≤ (j 0).val ∧ (j 0).val < b

theorem mem_xrows {a b : ℕ} {j : S16384x2048.Idx} : j ∈ xrows a b ↔ a ≤ (j 0).val ∧ (j 0).val < b := by simp [xrows]
theorem mem_orows {a b : ℕ} {j : S4608x2048.Idx} : j ∈ orows a b ↔ a ≤ (j 0).val ∧ (j 0).val < b := by simp [orows]

theorem orows_union {a b c : ℕ} (h : a ≤ b) (h' : b ≤ c) : orows a b ∪ orows b c = orows a c := by
  ext j; simp only [Finset.mem_union, mem_orows]; omega
theorem orows_disjoint {a b c e : ℕ} (h : b ≤ c) : Disjoint (orows a b) (orows c e) :=
  Finset.disjoint_left.mpr fun j h1 h2 => by rw [mem_orows] at h1 h2; omega
theorem orows_self (a : ℕ) : orows a a = ∅ := by ext j; simp only [mem_orows, Finset.notMem_empty, iff_false]; omega

theorem xM_set {off : Fin 2 → ℕ} {r : ℕ} (hoff : off = ![r, 0]) (h : ∀ a, off a + S8x2048.size a ≤ S16384x2048.size a) :
    (xM off h).view.set = xrows r (r + 8) := by
  subst hoff
  show (xV.view.slice (Rect.unit (s := S16384x2048) ![r, 0] S8x2048.size h)).set = _
  refine (View.set_slice_whole _ _).trans ?_
  ext j
  rw [Rect.mem_set_unit, mem_xrows]
  have h1 : (j 1).val < 2048 := (j 1).isLt
  constructor
  · intro hj; have := hj 0; exact this
  · intro hj; refine Fin.forall_fin_two.mpr ⟨hj, ?_⟩
    show 0 ≤ (j 1).val ∧ (j 1).val < 0 + 2048
    omega

theorem oM_set {off : Fin 2 → ℕ} {r : ℕ} (hoff : off = ![r, 0]) (h : ∀ a, off a + S8x2048.size a ≤ S4608x2048.size a) :
    (oM off h).view.set = orows r (r + 8) := by
  subst hoff
  show (oV.view.slice (Rect.unit (s := S4608x2048) ![r, 0] S8x2048.size h)).set = _
  refine (View.set_slice_whole _ _).trans ?_
  ext j
  rw [Rect.mem_set_unit, mem_orows]
  have h1 : (j 1).val < 2048 := (j 1).isLt
  constructor
  · intro hj; have := hj 0; exact this
  · intro hj; refine Fin.forall_fin_two.mpr ⟨hj, ?_⟩
    show 0 ≤ (j 1).val ∧ (j 1).val < 0 + 2048
    omega

/-- The block of 8 rows of `x` from row `r`. -/
def xblock {α : Type} (x : S16384x2048.Idx → α) (r : ℕ) (j : S8x2048.Idx) : α :=
  x (ix2 (n0 := 16384) (n1 := 2048) ⟨(r + (j 0).val) % 16384, Nat.mod_lt _ (by decide)⟩ (j 1))

/-- What the tiles leave in the output: the first 4608 rows of `x`, their columns taken at the permutation. -/
def tilesOut {α : Type} (x : S16384x2048.Idx → α) (p : S2048.Idx → BitVec 32) (j : S4608x2048.Idx) : α :=
  x (ix2 (n0 := 16384) (n1 := 2048) ⟨(j 0).val % 16384, Nat.mod_lt _ (by decide)⟩ (pick p (j 1)))

theorem read_xM {off : Fin 2 → ℕ} {r : ℕ} (hoff : off = ![r, 0]) (h : ∀ a, off a + S8x2048.size a ≤ S16384x2048.size a)
    (x : S16384x2048.Idx → F .f32) : (xM off h).view.read (Elt F) x = xblock x r := by
  subst hoff
  funext j
  show x _ = x _
  congr 1
  have h0 : r + 8 ≤ 16384 := h 0
  have hj : (j 0).val < 8 := (j 0).isLt
  funext a
  match a with
  | ⟨0, _⟩ =>
    refine Fin.ext ?_
    show r + 1 * (j 0).val = (r + (j 0).val) % 16384
    rw [Nat.mod_eq_of_lt (by omega)]; omega
  | ⟨1, _⟩ =>
    refine Fin.ext ?_
    show 0 + 1 * (j 1).val = (j 1).val
    omega

/-- A gathered block written to its rows of the output is the output's final contents there. -/
theorem write_oM {off : Fin 2 → ℕ} {r : ℕ} (hoff : off = ![r, 0]) (h : ∀ a, off a + S8x2048.size a ≤ S4608x2048.size a)
    (x : S16384x2048.Idx → F .f32) (p : S2048.Idx → BitVec 32) (f : S4608x2048.Idx → F .f32) :
    ∀ j ∈ (oM off h).view.set, (oM off h).view.write (Elt F) f (gathered (xblock x r) p) Finset.univ j = tilesOut x p j := by
  subst hoff
  intro j hj
  obtain ⟨y, -, rfl⟩ := Finset.mem_map.mp hj
  rw [View.write_emb_of_mem _ _ (Finset.mem_univ _)]
  show x _ = x _
  congr 1
  funext a
  match a with
  | ⟨0, _⟩ =>
    refine Fin.ext ?_
    show (r + (y 0).val) % 16384 = (r + 1 * (y 0).val) % 16384
    rw [Nat.one_mul]
  | ⟨1, _⟩ =>
    show pick p (y 1) = pick p _
    congr 1
    refine Fin.ext ?_
    show (y 1).val = 0 + 1 * (y 1).val
    omega

/-! ## A copy over the ends it owns -/

section Generic

/-- A copy into a memref the thread owns: while it is under way the counter holds the target with the source's contents. -/
theorem enqueue_into {c : Thread nD τ} {sp sp' : Space} {s : Shape} {e : EltTy} {src : Memref sig c.2.kind sp s e}
    {dst : Memref sig c.2.kind sp' s e} {sm : DmaSem sig} {q : PosShare TreeShare} {fs : Buf (Elt F) (src.view.loc c)}
    {Y Z : s.Idx → Elt F e} (hZ : src.view.read (Elt F) fs = Z) {I : Finset (Idx (src.view.loc c))} (hI : src.view.set = I)
    {hsrc : src.view.WordExact} {hdst : dst.view.WordExact} {N : ℕ} (hN : dst.view.dmaCredit = N) (hN0 : 0 < N)
    {hsem : (DmaTarget.here (nD := nD) (τ := τ) (p := c.2) dst).Typed sp (.dma sm)} {α : Type}
    {k : PUnit → Prog (TpuEff nD τ sig (Elt F) Λ₀ c.2) α} {Q : α → sProp 𝕄} :
    iprop((src.view.loc c ↦[I]{q} fs) ∗ owns c dst fullShare Y ∗ semVal (c, .dma sm) 0)
      ⊢ iprop((Transfers.Flight EC c (.dma sm) none N iprop(owns c dst fullShare Z ∗ src.view.loc c ↦[I]{q} fs)
            -∗ wp frame (wpE (defs₀ (F := F)) 𝒱₀ c none) Set.univ (k ⟨⟩) Q)
          -∗ wp frame (wpE (defs₀ (F := F)) 𝒱₀ c none) Set.univ (.op (.enqueueDma src (.here dst) (.dma sm) hsrc hdst hsem) k) Q) := by
  subst hI hZ
  unfold owns
  iintro ⟨Hx, ⟨%g, -, Hs⟩, Hv⟩ Hk
  iapply (Transfers.wp_dmaLocal EC 𝒱₀ c none (src := src) (dst := dst) (sm := .dma sm) (q := q) (fs := fs) (fd := g)
    none N hN hN0 (Finset.Subset.refl _)) $$ [Hs Hv Hx]
  · isplitl [Hx]; · iexact Hx
    isplitl [Hs] <;> iassumption
  iintro Hf
  iapply Hk
  iapply (Transfers.Flight_mono EC c ?_) $$ Hf
  iintro ⟨Hd, Hx⟩
  isplitl [Hd]
  · iexists (dst.view.write (Elt F) g (src.view.read (Elt F) fs) Finset.univ)
    isplitr
    · ipureintro
      exact View.read_write_univ _ _
    · iexact Hd
  · iexact Hx

/-- A copy out of a memref the thread owns, to elements `I` of a buffer, which it leaves at `f'`. -/
theorem enqueue_out {c : Thread nD τ} {sp sp' : Space} {s : Shape} {e : EltTy} {src : Memref sig c.2.kind sp s e}
    {dst : Memref sig c.2.kind sp' s e} {sm : DmaSem sig} {fd f' : Buf (Elt F) (dst.view.loc c)}
    {Y : s.Idx → Elt F e} {I : Finset (Idx (dst.view.loc c))} (hI : dst.view.set = I)
    (hf : ∀ j ∈ dst.view.set, dst.view.write (Elt F) fd Y Finset.univ j = f' j)
    {hsrc : src.view.WordExact} {hdst : dst.view.WordExact} {N : ℕ} (hN : dst.view.dmaCredit = N) (hN0 : 0 < N)
    {hsem : (DmaTarget.here (nD := nD) (τ := τ) (p := c.2) dst).Typed sp (.dma sm)} {α : Type}
    {k : PUnit → Prog (TpuEff nD τ sig (Elt F) Λ₀ c.2) α} {Q : α → sProp 𝕄} :
    iprop(owns c src fullShare Y ∗ (dst.view.loc c ↦[I]{fullShare} fd) ∗ semVal (c, .dma sm) 0)
      ⊢ iprop((Transfers.Flight EC c (.dma sm) none N iprop((dst.view.loc c ↦[I]{fullShare} f') ∗ owns c src fullShare Y)
            -∗ wp frame (wpE (defs₀ (F := F)) 𝒱₀ c none) Set.univ (k ⟨⟩) Q)
          -∗ wp frame (wpE (defs₀ (F := F)) 𝒱₀ c none) Set.univ (.op (.enqueueDma src (.here dst) (.dma sm) hsrc hdst hsem) k) Q) := by
  subst hI
  unfold owns
  iintro ⟨⟨%g, %hg, Hs⟩, Hd, Hv⟩ Hk
  iapply (Transfers.wp_dmaLocal EC 𝒱₀ c none (src := src) (dst := dst) (sm := .dma sm) (q := fullShare) (fs := g) (fd := fd)
    none N hN hN0 (Finset.Subset.refl _)) $$ [Hs Hv Hd]
  · isplitl [Hs]; · iexact Hs
    isplitl [Hd] <;> iassumption
  iintro Hf
  iapply Hk
  iapply (Transfers.Flight_mono EC c ?_) $$ Hf
  iintro ⟨Hd, Hs⟩
  isplitl [Hd]
  · iapply (Entails.of_eq (pointsTo_congr (f := dst.view.write (Elt F) fd (ReadAs.same.apply (src.view.read (Elt F) g)) Finset.univ) (g := f')
      fun j hj => (congrArg (fun y => dst.view.write (Elt F) fd y Finset.univ j) hg).trans (hf j hj))) $$ Hd
  · iexists g
    isplitr
    · ipureintro; exact hg
    · iexact Hs

/-- The wait for a copy. -/
theorem wait_for {c : Thread nD τ} {sp sp' : Space} {s s' : Shape} {e e' : EltTy} {src : Memref sig c.2.kind sp s e}
    {dst : Memref sig c.2.kind sp' s' e'} {sm : DmaSem sig} {N : ℕ} (hN : dst.view.dmaCredit = N) {D : sProp 𝕄}
    {O : CellTallies nD τ sig (HIx 1)} {W : Waits sig (HIx 1)}
    {hsrc : src.view.WordExact} {hdst : dst.view.WordExact} {α : Type}
    {k : PUnit → Prog (TpuEff nD τ sig (Elt F) Λ₀ c.2) α} {Q : α → sProp 𝕄} :
    iprop(Transfers.Flight EC c (.dma sm) none N D ∗ owes c O W ∗ Transfers.MayWaits c none O)
      ⊢ iprop((D ∗ semVal (c, .dma sm) 0 ∗ owes c O (insert (SemLoc.dma sm, (none : HIx 1)) W)
            -∗ wp frame (wpE (defs₀ (F := F)) 𝒱₀ c none) Set.univ (k ⟨⟩) Q)
          -∗ wp frame (wpE (defs₀ (F := F)) 𝒱₀ c none) Set.univ (.op (.waitDma2 sm src dst hsrc hdst) k) Q) := by
  iintro ⟨Hf, Ho, Hm⟩
  ihave Hm' := Transfers.MayWaits.elim (.dma sm) $$ Hm
  iapply (Transfers.wp_waitLocalO EC 𝒱₀ c none none hN) $$ [Hf Ho Hm']
  · isplitl [Hf]; · iexact Hf
    isplitl [Ho] <;> iassumption

end Generic

/-! ## The copies -/

section Copies

variable (d : Dev nD) (i : grid0.Coords) (b : Fin 2) (x : S16384x2048.Idx → F .f32) (p : S2048.Idx → BitVec 32)
variable (q : Fin 2 → PosShare TreeShare) (O : CellTallies nD τ sig (HIx 1)) (W : Waits sig (HIx 1))
variable {α : Type}

abbrev xLoc (d : Dev nD) : Loc nD τ sig := (SparseCore.T d).loc main_v0
abbrev pLoc (d : Dev nD) : Loc nD τ sig := (SparseCore.T d).loc main_arg1
abbrev oLoc (d : Dev nD) : Loc nD τ sig := (SparseCore.T d).loc main_v1

/-- The bytes of a block's copy, as its counter counts them. -/
abbrev NI : ℕ := (inS 0).view.dmaCredit
abbrev NO : ℕ := (oM ![0, 0] (orow_inb (by decide))).view.dmaCredit

/-- Input slot `b` with no copy under way: the slot, its counter at zero, the tile's share of the input for it. -/
def IdleIn : sProp 𝕄 :=
  iprop((∃ Y : S8x2048.Idx → F .f32, owns (Val := Elt F) (tile d i) (inS b) fullShare Y) ∗ semVal (tile d i, .dma (inC b)) 0 ∗ xLoc d ↦{q b} x)

/-- Input slot `b` with the copy of the block at row `r` under way. -/
def BusyIn (r : ℕ) : sProp 𝕄 :=
  iprop(Transfers.Flight EC (tile d i) (.dma (inC b)) none NI
      iprop(owns (Val := Elt F) (tile d i) (inS b) fullShare (xblock x r) ∗ xLoc d ↦[xrows r (r + 8)]{q b} x)
    ∗ xLoc d ↦[Finset.univ \ xrows r (r + 8)]{q b} x)

/-- Output slot `b` with no copy under way. -/
def IdleOut : sProp 𝕄 :=
  iprop((∃ Y : S8x2048.Idx → F .f32, owns (Val := Elt F) (tile d i) (outS b) fullShare Y) ∗ semVal (tile d i, .dma (outC b)) 0)

/-- Output slot `b` with the copy out to the rows from `r` under way. -/
def BusyOut (r : ℕ) : sProp 𝕄 :=
  Transfers.Flight EC (tile d i) (.dma (outC b)) none NO
    iprop((oLoc d ↦[orows r (r + 8)]{fullShare} (tilesOut x p)) ∗ (∃ Y : S8x2048.Idx → F .f32, owns (Val := Elt F) (tile d i) (outS b) fullShare Y))

/-- What the thread owes, having waited on cells of its own besides those in `W`. -/
def Owing : sProp 𝕄 := iprop(∃ W', ⌜∀ w ∈ W', w ∈ W ∨ w.2 = none⌝ ∗ owes (tile d i) O W')

theorem owing_insert {W' : Waits sig (HIx 1)} (h : ∀ w ∈ W', w ∈ W ∨ w.2 = none) (sm : SemLoc sig) :
    (owes (tile d i) O (insert (sm, (none : HIx 1)) W') : sProp 𝕄) ⊢ Owing d i O W := by
  unfold Owing
  iintro H
  iexists (insert (sm, (none : HIx 1)) W')
  isplitr
  · ipureintro
    intro w hw
    rcases Finset.mem_insert.mp hw with hw | hw
    · exact Or.inr (congrArg Prod.snd hw)
    · exact h w hw
  · iexact H

/-- The copy of the block at row `r` into input slot `b` started. -/
theorem start_in {r : ℕ} {off : Fin 3 → ℕ} (hoff : off = ![b.val, 0, 0]) {h : ∀ a, off a + S1x8x2048.size a ≤ S2x8x2048.size a}
    {offs : Fin 1 → ℕ} (hoffs : offs = ![b.val]) {hs : ∀ a, offs a + S1.size a ≤ S2.size a}
    {offx : Fin 2 → ℕ} (hoffx : offx = ![r, 0]) {hx : ∀ a, offx a + S8x2048.size a ≤ S16384x2048.size a}
    {hsrc : (xM offx hx).view.WordExact} {hdst : (inM off h).view.WordExact}
    {hsem : (DmaTarget.here (nD := nD) (τ := τ) (p := (tile d i).2) (inM off h)).Typed .hbm (.dma (inSem offs hs).sem)}
    {k : PUnit → Prog (TpuEff nD τ sig (Elt F) Λ₀ (tile d i).2) α} {Q : α → sProp 𝕄} :
    IdleIn d i b x q
      ⊢ iprop((BusyIn d i b x q r -∗ wp frame (wpE (defs₀ (F := F)) 𝒱₀ (tile d i) none) Set.univ (k ⟨⟩) Q)
          -∗ wp frame (wpE (defs₀ (F := F)) 𝒱₀ (tile d i) none) Set.univ
              (.op (.enqueueDma (xM offx hx) (.here (inM off h)) (.dma (inSem offs hs).sem) hsrc hdst hsem) k) Q) := by
  have hset := xM_set hoffx hx
  have hread := read_xM (F := F) hoffx hx x
  subst hoff hoffs
  unfold IdleIn BusyIn
  iintro ⟨⟨%Y, Hs⟩, Hv, Hx⟩ Hk
  ihave Hx' := (pointsTo_split_subset (Finset.subset_univ (xrows r (r + 8)))).1 $$ Hx
  icases Hx' with ⟨Hx, Hr⟩
  iapply (enqueue_into (c := tile d i) (src := xM offx hx) (dst := inS b) (sm := inC b) (q := q b) (fs := x) hread hset rfl
    (View.dmaCredit_pos _ (by decide))) $$ [Hs Hv Hx]
  · isplitl [Hx]; · iexact Hx
    isplitl [Hs] <;> iassumption
  iintro Hf
  iapply Hk
  isplitl [Hf] <;> iassumption

/-- The wait for the copy of the block at row `r` into input slot `b`: the slot holds the block. -/
theorem wait_in {r : ℕ} {off : Fin 3 → ℕ} {h : ∀ a, off a + S1x8x2048.size a ≤ S2x8x2048.size a}
    {offs : Fin 1 → ℕ} (hoffs : offs = ![b.val]) {hs : ∀ a, offs a + S1.size a ≤ S2.size a}
    {offx : Fin 2 → ℕ} {hx : ∀ a, offx a + S8x2048.size a ≤ S16384x2048.size a}
    {hsrc : (xM offx hx).view.WordExact} {hdst : (inM off h).view.WordExact}
    {k : PUnit → Prog (TpuEff nD τ sig (Elt F) Λ₀ (tile d i).2) α} {Q : α → sProp 𝕄} :
    iprop(BusyIn d i b x q r ∗ Owing d i O W ∗ Transfers.MayWaits (tile d i) none O)
      ⊢ iprop((owns (Val := Elt F) (tile d i) (inS b) fullShare (xblock x r) ∗ semVal (tile d i, .dma (inC b)) 0 ∗ (xLoc d ↦{q b} x)
              ∗ Owing d i O W -∗ wp frame (wpE (defs₀ (F := F)) 𝒱₀ (tile d i) none) Set.univ (k ⟨⟩) Q)
          -∗ wp frame (wpE (defs₀ (F := F)) 𝒱₀ (tile d i) none) Set.univ
              (.op (.waitDma2 (inSem offs hs).sem (xM offx hx) (inM off h) hsrc hdst) k) Q) := by
  subst hoffs
  unfold BusyIn
  iintro ⟨⟨Hf, Hr⟩, Ho, Hm⟩ Hk
  unfold Owing
  icases Ho with ⟨%W', %hW, Ho⟩
  iapply (wait_for (c := tile d i) (dst := inM off h) (sm := inC b) rfl) $$ [Hf Ho Hm]
  · isplitl [Hf]; · iexact Hf
    isplitl [Ho] <;> iassumption
  iintro ⟨⟨Hs, Hx⟩, Hv, Ho⟩
  iapply Hk
  isplitl [Hs]; · iexact Hs
  isplitl [Hv]; · iexact Hv
  isplitl [Hx Hr]
  · iapply (pointsTo_split_subset (Finset.subset_univ (xrows r (r + 8)))).2 $$ [Hx Hr]
    isplitl [Hx] <;> iassumption
  · have hins := owing_insert (F := F) d i O W hW (SemLoc.dma (inC b))
    unfold Owing at hins
    iapply hins $$ Ho

/-- The copy out of output slot `b`, holding the gathered block at row `r`, started. -/
theorem start_out {r : ℕ} {off : Fin 3 → ℕ} (hoff : off = ![b.val, 0, 0]) {h : ∀ a, off a + S1x8x2048.size a ≤ S2x8x2048.size a}
    {offs : Fin 1 → ℕ} (hoffs : offs = ![b.val]) {hs : ∀ a, offs a + S1.size a ≤ S2.size a}
    {offx : Fin 2 → ℕ} (hoffx : offx = ![r, 0]) {hx : ∀ a, offx a + S8x2048.size a ≤ S4608x2048.size a}
    {hsrc : (outM off h).view.WordExact} {hdst : (oM offx hx).view.WordExact}
    {hsem : (DmaTarget.here (nD := nD) (τ := τ) (p := (tile d i).2) (oM offx hx)).Typed .vmem (.dma (outSem offs hs).sem)}
    (f : S4608x2048.Idx → F .f32)
    {k : PUnit → Prog (TpuEff nD τ sig (Elt F) Λ₀ (tile d i).2) α} {Q : α → sProp 𝕄} :
    iprop(owns (Val := Elt F) (tile d i) (outS b) fullShare (gathered (xblock x r) p) ∗ semVal (tile d i, .dma (outC b)) 0
        ∗ oLoc d ↦[orows r (r + 8)]{fullShare} f)
      ⊢ iprop((BusyOut d i b x p r -∗ wp frame (wpE (defs₀ (F := F)) 𝒱₀ (tile d i) none) Set.univ (k ⟨⟩) Q)
          -∗ wp frame (wpE (defs₀ (F := F)) 𝒱₀ (tile d i) none) Set.univ
              (.op (.enqueueDma (outM off h) (.here (oM offx hx)) (.dma (outSem offs hs).sem) hsrc hdst hsem) k) Q) := by
  have hset := oM_set hoffx hx
  have hwrite := write_oM (F := F) hoffx hx x p f
  subst hoff hoffs
  unfold BusyOut
  iintro ⟨Hs, Hv, Ho⟩ Hk
  iapply (enqueue_out (c := tile d i) (src := outS b) (dst := oM offx hx) (sm := outC b) (fd := f) (f' := tilesOut x p) hset hwrite rfl
    (View.dmaCredit_pos _ (by decide))) $$ [Hs Hv Ho]
  · isplitl [Hs]; · iexact Hs
    isplitl [Ho] <;> iassumption
  iintro Hf
  iapply Hk
  iapply (Transfers.Flight_mono EC (tile d i) ?_) $$ Hf
  iintro ⟨Ho, Hs⟩
  isplitl [Ho]; · iexact Ho
  iexists _; iexact Hs

/-- The wait for the copy out to the rows from `r`: those rows hold the kernel's result, the slot is free. -/
theorem wait_out {r : ℕ} {off : Fin 3 → ℕ} {h : ∀ a, off a + S1x8x2048.size a ≤ S2x8x2048.size a}
    {offs : Fin 1 → ℕ} (hoffs : offs = ![b.val]) {hs : ∀ a, offs a + S1.size a ≤ S2.size a}
    {offx : Fin 2 → ℕ} {hx : ∀ a, offx a + S8x2048.size a ≤ S4608x2048.size a}
    {hsrc : (outM off h).view.WordExact} {hdst : (oM offx hx).view.WordExact}
    {k : PUnit → Prog (TpuEff nD τ sig (Elt F) Λ₀ (tile d i).2) α} {Q : α → sProp 𝕄} :
    iprop(BusyOut d i b x p r ∗ Owing d i O W ∗ Transfers.MayWaits (tile d i) none O)
      ⊢ iprop((IdleOut d i b ∗ (oLoc d ↦[orows r (r + 8)]{fullShare} (tilesOut x p)) ∗ Owing d i O W
              -∗ wp frame (wpE (defs₀ (F := F)) 𝒱₀ (tile d i) none) Set.univ (k ⟨⟩) Q)
          -∗ wp frame (wpE (defs₀ (F := F)) 𝒱₀ (tile d i) none) Set.univ
              (.op (.waitDma2 (outSem offs hs).sem (outM off h) (oM offx hx) hsrc hdst) k) Q) := by
  subst hoffs
  unfold BusyOut
  iintro ⟨Hf, Ho, Hm⟩ Hk
  unfold Owing
  icases Ho with ⟨%W', %hW, Ho⟩
  iapply (wait_for (c := tile d i) (dst := oM offx hx) (sm := outC b) rfl) $$ [Hf Ho Hm]
  · isplitl [Hf]; · iexact Hf
    isplitl [Ho] <;> iassumption
  iintro ⟨⟨Hx, Hs⟩, Hv, Ho⟩
  iapply Hk
  unfold IdleOut
  isplitl [Hs Hv]
  · isplitl [Hs] <;> iassumption
  isplitl [Hx]; · iexact Hx
  have hins := owing_insert (F := F) d i O W hW (SemLoc.dma (outC b))
  unfold Owing at hins
  iapply hins $$ Ho

end Copies

end Cert.Proof.Permute
-- ==== Proof.Loop.lean ====
/-
  The tile's pipeline loop.  Trip `k` starts the copy of block `k + 1` into the input slot of its parity, waits for block
  `k`, gathers it into the output slot of its parity, starts that slot's copy out, and waits for the copy out of block `k - 1`.
-/
module

public import proofs.«01_k».proof.Proof.Gather
public import proofs.«01_k».proof.Proof.Copies

@[expose] public section

noncomputable section

namespace Cert.Proof.Permute

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-! ## Slots by parity -/

/-- The slot of trip `k`. -/
abbrev sl (k : ℕ) : Fin 2 := ⟨k % 2, Nat.mod_lt _ (by decide)⟩

theorem sl_two (k : ℕ) : sl (k + 1 + 1) = sl k := Fin.ext (by show (k + 1 + 1) % 2 = k % 2; omega)
theorem pred_mod {k : ℕ} (h : 0 < k) : (k - 1) % 2 = (k + 1) % 2 := by omega

section Loop

variable (d : Dev nD) (i : grid0.Coords) (x : S16384x2048.Idx → F .f32) (p : S2048.Idx → BitVec 32)
variable (f : S4608x2048.Idx → F .f32) (q : Fin 2 → PosShare TreeShare) (O : CellTallies nD τ sig (HIx 1)) (W : Waits sig (HIx 1))

/-- Before trip `k`: its block is on its way into its input slot, until the last trip is done. -/
def InNow (k : ℕ) : sProp 𝕄 := if k < 18 then BusyIn d i (sl k) x q (base i + 8 * k) else IdleIn d i (sl k) x q

/-- Before trip `k`: the block before is on its way out of its output slot, once there is one. -/
def OutPrev (k : ℕ) : sProp 𝕄 := if 0 < k then BusyOut d i (sl (k + 1)) x p (base i + 8 * (k - 1)) else IdleOut d i (sl (k + 1))

/-- Trip `k` up to the wait: the copy of the next block is started, if there is a next block. -/
theorem part3_spec (k : Fin k0_t1_loop.trips) :
    IdleIn d i (sl (k.val + 1)) x q
      ⊢ wp frame (wpE (defs₀ (F := F)) 𝒱₀ (tile d i) none) Set.univ
          (k0_part3 i xV (Memref.isWhole_whole _) pV (Memref.isWhole_whole _) oV (Memref.isWhole_whole _) sP (Memref.isWhole_whole _) cc0_scratch1
            sIn (Memref.isWhole_whole _) cc0_scoped1 sOut (Memref.isWhole_whole _) cc0_scoped3
            (firstBlock i) 0#32 1#32 k (A8 k) (A9 k) (A9 k) (A11 k) (A12 k))
          fun r => iprop(⌜r = ⟨chk4_ok k, chk2_ok k, chk1_ok i k, w7 k, w64 k, w65 k, w66 i k, w71 i k, w76 i k, w91 i k, w96 i k⟩⌝
            ∗ InNow d i x q (k.val + 1)) := by
  have hk18 : k.val < 18 := trips1 ▸ k.isLt
  simp only [k0_part3_eq_skeleton]
  unfold k0_part3_skel
  simp only [Prog.lift, Prog.bind_op, Prog.bind_ret, Prog.pure_eq_ret]
  simp only [wp_assume_of _ _ _ _ (chk4_ok k), wp_assume_of _ _ _ _ (chk2_ok k), wp_assume_of _ _ _ _ (chk1_ok i k)]
  unfold InNow
  by_cases hk : k.val < 17
  · rw [dif_pos ((cond1_iff i k).mpr hk), if_pos (show k.val + 1 < 18 by omega)]
    iintro Hi
    iapply (start_in d i (sl (k.val + 1)) x q (r := base i + 8 * (k.val + 1)) (off4_at k) (off6_at k) (off5_at i k hk)) $$ Hi
    iintro Hi
    rw [wp_ret]; imodintro
    isplitr
    · ipureintro; rfl
    · iexact Hi
  · rw [dif_neg (mt (cond1_iff i k).mp hk), if_neg (show ¬ k.val + 1 < 18 by omega)]
    rw [wp_ret]
    iintro Hi
    imodintro
    isplitr
    · ipureintro; rfl
    · iexact Hi

/-- The inner loop: the output slot ends up holding the gathered block. -/
theorem inner_spec (k : Fin k0_t1_loop.trips) (X : S8x2048.Idx → F .f32) (hp : ∀ c, (p c).toNat < 2048)
    (h4 : k0_chk4 (A9 k)) (h2 : k0_chk2 (A9 k)) (h1 : k0_chk1 i k (A8 k) (A9 k) (A9 k) (A11 k) (A12 k))
    (w7 : BitVec 32) (w64 w65 : BitVec 1) (w66 w71 w76 : BitVec 32) (w96 : BitVec 1) :
    iprop(permHas d i p ∗ inHas d i X (par k) ∗ ∃ Y : S8x2048.Idx → F .f32, owns (Val := Elt F) (tile d i) (outS (par k)) fullShare Y)
      ⊢ wp frame (wpE (defs₀ (F := F)) 𝒱₀ (tile d i) none) Set.univ
          (Scf.Loop.for k0_t2_loop k0_t2_ok ⟨⟩ (k0_t2_body i xV (Memref.isWhole_whole _) pV (Memref.isWhole_whole _) oV (Memref.isWhole_whole _) sP (Memref.isWhole_whole _) cc0_scratch1
            sIn (Memref.isWhole_whole _) cc0_scoped1 sOut (Memref.isWhole_whole _) cc0_scoped3
            k (A8 k) (A9 k) (A9 k) (A11 k) (A12 k) h4 h2 h1 w7 w64 w65 w66 w71 w76 w96))
          fun _ => iprop(permHas d i p ∗ inHas d i X (par k) ∗ owns (Val := Elt F) (tile d i) (outS (par k)) fullShare (gathered X p)) := by
  iintro ⟨Hp, Hi, %Y, Ho⟩
  iapply (Scf.wp_for frame (wpE (defs₀ (F := F)) 𝒱₀ (tile d i) none) Set.univ _ _ _ k0_t2_ok _ _
    (fun g _ => iprop(permHas d i p ∗ inHas d i X (par k) ∗ outHas d i (par k) X p g 0))
    (fun g _ => trip_spec d i k X p h4 h2 hp g h1 w7 w64 w65 w66 w71 w76 w96)) $$ [Hp Hi Ho]
  isplitl [Hp Hi Ho]
  · isplitl [Hp]; · iexact Hp
    isplitl [Hi]; · iexact Hi
    unfold outHas
    iexists Y
    isplitr
    · ipureintro; exact filled_zero Y
    · iexact Ho
  · iintro %_ ⟨Hp, Hi, Ho⟩
    isplitl [Hp]; · iexact Hp
    isplitl [Hi]; · iexact Hi
    unfold outHas
    icases Ho with ⟨%Z, %hZ, Ho⟩
    have hZ' : Filled X p 128 0 Z := trips2 ▸ hZ
    rw [filled_all hZ']
    iexact Ho

/-- Trip `k` from the wait for its block to the start of its copy out. -/
theorem part4_spec (k : Fin k0_t1_loop.trips) (hp : ∀ c, (p c).toNat < 2048) :
    iprop(permHas d i p ∗ BusyIn d i (sl k) x q (base i + 8 * k.val) ∗ IdleOut d i (sl k) ∗ (oLoc d ↦[orows (base i + 8 * k.val) (base i + 8 * k.val + 8)]{fullShare} f)
        ∗ Owing d i O W ∗ Transfers.MayWaits (tile d i) none O)
      ⊢ wp frame (wpE (defs₀ (F := F)) 𝒱₀ (tile d i) none) Set.univ
          (k0_part4 i xV (Memref.isWhole_whole _) pV (Memref.isWhole_whole _) oV (Memref.isWhole_whole _) sP (Memref.isWhole_whole _) cc0_scratch1
            sIn (Memref.isWhole_whole _) cc0_scoped1 sOut (Memref.isWhole_whole _) cc0_scoped3
            k (A8 k) (A9 k) (A9 k) (A11 k) (A12 k) (chk4_ok k) (chk2_ok k) (chk1_ok i k) (w7 k) (w64 k) (w65 k) (w66 i k) (w71 i k) (w76 i k) (w96 i k))
          fun r => iprop(⌜r = ⟨w122 i k, w131 i k⟩⌝ ∗ permHas d i p ∗ IdleIn d i (sl k) x q ∗ BusyOut d i (sl k) x p (base i + 8 * k.val)
            ∗ Owing d i O W) := by
  simp only [k0_part4_eq_skeleton]
  unfold k0_part4_skel
  simp only [Prog.lift, Prog.bind_op, Prog.bind_ret, Prog.pure_eq_ret, ite_self]
  rw [dif_pos (cond2_ok i k)]
  iintro ⟨Hp, Hi, Ho, Hr, Hw, #Hm⟩
  iapply (wait_in d i (sl k) x q O W (off9_at k)) $$ [Hi Hw]
  · isplitl [Hi]; · iexact Hi
    isplitl [Hw] <;> iassumption
  iintro ⟨Hi, Hiv, Hx, Hw⟩
  unfold IdleOut
  icases Ho with ⟨Ho, Hov⟩
  rw [wp_bind]
  ihave Hin := (inner_spec d i p k (xblock x (base i + 8 * k.val)) hp (chk4_ok k) (chk2_ok k) (chk1_ok i k) (w7 k) (w64 k) (w65 k) (w66 i k) (w71 i k) (w76 i k) (w96 i k)) $$ [Hp Hi Ho]
  · isplitl [Hp]; · iexact Hp
    unfold inHas
    isplitl [Hi] <;> iassumption
  iapply wp_wand_r
  isplitl [Hin]; · iexact Hin
  iintro %_ ⟨Hp, Hi, Ho⟩
  rw [dif_pos (cond5_ok i k)]
  simp only [Prog.bind_op, Prog.bind_ret]
  iapply (start_out d i (sl k) x p (r := base i + 8 * k.val) (off35_at k) (off37_at k) (off36_at i k) f) $$ [Ho Hov Hr]
  · isplitl [Ho]; · iexact Ho
    isplitl [Hov] <;> iassumption
  iintro Ho
  rw [wp_ret]; imodintro
  isplitr
  · ipureintro; rfl
  isplitl [Hp]; · iexact Hp
  isplitl [Hi Hiv Hx]
  · unfold IdleIn inHas
    isplitl [Hi]
    · iexists _; iexact Hi
    isplitl [Hiv] <;> iassumption
  isplitl [Ho] <;> iassumption

theorem inNow_lt {k : ℕ} (h : k < 18) : InNow d i x q k = BusyIn d i (sl k) x q (base i + 8 * k) := by unfold InNow; rw [if_pos h]
theorem outPrev_pos {k : ℕ} (h : 0 < k) : OutPrev d i x p k = BusyOut d i (sl (k + 1)) x p (base i + 8 * (k - 1)) := by
  unfold OutPrev; rw [if_pos h]
theorem outPrev_not {k : ℕ} (h : ¬ 0 < k) : OutPrev (F := F) d i x p k = IdleOut d i (sl (k + 1)) := by
  unfold OutPrev; rw [if_neg h]
theorem outPrev_succ (k : ℕ) : OutPrev d i x p (k + 1) = BusyOut d i (sl k) x p (base i + 8 * k) := by
  rw [outPrev_pos d i x p (Nat.succ_pos k), sl_two]; rfl

/-- The next 8 rows split off the rows still to be written. -/
theorem rows_next {k : ℕ} (hk : k < 18) :
    (oLoc d ↦[orows (base i + 8 * k) (base i + 144)]{fullShare} f : sProp 𝕄)
      ⊢ iprop((oLoc d ↦[orows (base i + 8 * k) (base i + 8 * k + 8)]{fullShare} f) ∗ oLoc d ↦[orows (base i + 8 * (k + 1)) (base i + 144)]{fullShare} f) := by
  rw [← orows_union (a := base i + 8 * k) (b := base i + 8 * k + 8) (c := base i + 144) (by omega) (by omega)]
  exact (pointsTo_union (orows_disjoint (le_refl _))).1

/-- The 8 rows just written join those written before. -/
theorem rows_done {k : ℕ} (hk : 0 < k) (g : S4608x2048.Idx → F .f32) :
    iprop((oLoc d ↦[orows (base i) (base i + 8 * (k - 1))]{fullShare} g) ∗ oLoc d ↦[orows (base i + 8 * (k - 1)) (base i + 8 * (k - 1) + 8)]{fullShare} g)
      ⊢ (oLoc d ↦[orows (base i) (base i + 8 * (k + 1 - 1))]{fullShare} g : sProp 𝕄) := by
  rw [show base i + 8 * (k + 1 - 1) = base i + 8 * (k - 1) + 8 by omega,
    ← orows_union (a := base i) (b := base i + 8 * (k - 1)) (c := base i + 8 * (k - 1) + 8) (by omega) (by omega)]
  exact (pointsTo_union (orows_disjoint (le_refl _))).2

/-- Before trip `k`: the blocks before `k - 1` are in the output, the rows from block `k` on still hold `f`. -/
def Inv (k : ℕ) (acc : BitVec 32 × BitVec 32 × BitVec 32 × BitVec 32 × BitVec 32) : sProp 𝕄 :=
  iprop(⌜acc = carried k⌝ ∗ permHas d i p ∗ InNow d i x q k ∗ IdleIn d i (sl (k + 1)) x q ∗ IdleOut d i (sl k) ∗ OutPrev d i x p k
    ∗ (oLoc d ↦[orows (base i) (base i + 8 * (k - 1))]{fullShare} (tilesOut x p)) ∗ (oLoc d ↦[orows (base i + 8 * k) (base i + 144)]{fullShare} f)
    ∗ Owing d i O W ∗ Transfers.MayWaits (tile d i) none O)

/-- One trip takes the loop's state at `k` to its state at `k + 1`. -/
theorem body_spec (k : Fin k0_t1_loop.trips) (hp : ∀ c, (p c).toNat < 2048) (acc : BitVec 32 × BitVec 32 × BitVec 32 × BitVec 32 × BitVec 32) :
    Inv d i x p f q O W k.val acc
      ⊢ wp frame (wpE (defs₀ (F := F)) 𝒱₀ (tile d i) none) Set.univ
          (k0_t1_body i xV (Memref.isWhole_whole _) pV (Memref.isWhole_whole _) oV (Memref.isWhole_whole _) sP (Memref.isWhole_whole _) cc0_scratch1
            sIn (Memref.isWhole_whole _) cc0_scoped1 sOut (Memref.isWhole_whole _) cc0_scoped3 (firstBlock i) k acc)
          fun acc' => Inv d i x p f q O W (k.val + 1) acc' := by
  have hk : k.val < 18 := trips1 ▸ k.isLt
  unfold Inv
  iintro ⟨%hacc, Hp, Hn, Hi, Ho, Hl, Hdone, Hrest, Hw, #Hm⟩
  subst hacc
  unfold k0_t1_body
  simp only
  rw [wp_bind]
  ihave H3 := (part3_spec d i x q k) $$ Hi
  iapply wp_wand_r
  isplitl [H3]; · iexact H3
  iintro %r ⟨%hr, Hn'⟩
  subst hr
  rw [wp_bind]
  ihave Hn := (Entails.of_eq (inNow_lt d i x q hk)) $$ Hn
  ihave Hs := (rows_next d i f hk) $$ Hrest
  icases Hs with ⟨Hb, Hrest⟩
  ihave H4 := (part4_spec d i x p f q O W k hp) $$ [Hp Hn Ho Hb Hw]
  · isplitl [Hp]; · iexact Hp
    isplitl [Hn]; · iexact Hn
    isplitl [Ho]; · iexact Ho
    isplitl [Hb]; · iexact Hb
    isplitl [Hw] <;> iassumption
  iapply wp_wand_r
  isplitl [H4]; · iexact H4
  iintro %r ⟨%hr, Hp, Hi, Ho, Hw⟩
  subst hr
  by_cases h0 : 0 < k.val
  · rw [dif_pos ((cond7_iff i k).mpr h0)]
    simp only [Prog.lift, Prog.bind_op, Prog.bind_ret, Prog.pure_eq_ret]
    ihave Hl := (Entails.of_eq (outPrev_pos d i x p h0)) $$ Hl
    iapply (wait_out d i (sl (k.val + 1)) x p O W (r := base i + 8 * (k.val - 1)) ((off40_at k).trans (by rw [pred_mod h0]))) $$ [Hl Hw]
    · isplitl [Hl]; · iexact Hl
      isplitl [Hw] <;> iassumption
    iintro ⟨Hl, Hb, Hw⟩
    rw [wp_ret]; imodintro
    rw [outPrev_succ, sl_two]
    isplitr
    · ipureintro; exact next_eq i k
    isplitl [Hp]; · iexact Hp
    isplitl [Hn']; · iexact Hn'
    isplitl [Hi]; · iexact Hi
    isplitl [Hl]; · iexact Hl
    isplitl [Ho]; · iexact Ho
    isplitl [Hdone Hb]
    · iapply (rows_done d i h0 _) $$ [Hdone Hb]
      isplitl [Hdone] <;> iassumption
    isplitl [Hrest]; · iexact Hrest
    isplitl [Hw] <;> iassumption
  · rw [dif_neg (mt (cond7_iff i k).mp h0)]
    simp only [Prog.lift, Prog.bind_op, Prog.bind_ret, Prog.pure_eq_ret]
    ihave Hl := (Entails.of_eq (outPrev_not d i x p h0)) $$ Hl
    rw [wp_ret]; imodintro
    rw [outPrev_succ, sl_two]
    isplitr
    · ipureintro; exact next_eq i k
    isplitl [Hp]; · iexact Hp
    isplitl [Hn']; · iexact Hn'
    isplitl [Hi]; · iexact Hi
    isplitl [Hl]; · iexact Hl
    isplitl [Ho]; · iexact Ho
    isplitl [Hdone]
    · rw [show k.val + 1 - 1 = k.val - 1 by omega]; iexact Hdone
    isplitl [Hrest]; · iexact Hrest
    isplitl [Hw] <;> iassumption

end Loop

end Cert.Proof.Permute
-- ==== Proof.Tile.lean ====
/-
  A tile's run: it fetches the permutation, runs the pipeline loop over its 18 blocks of 8 rows, and waits for the last
  block's copy out.  It leaves its 144 rows of the output at the input's rows, columns taken at the permutation.
-/
module

public import proofs.«01_k».proof.Proof.Loop

@[expose] public section

noncomputable section

namespace Cert.Proof.Permute

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

section Run

variable (d : Dev nD) (i : grid0.Coords) (x : S16384x2048.Idx → F .f32) (p : S2048.Idx → BitVec 32)
variable (f : S4608x2048.Idx → F .f32) (q : Fin 2 → PosShare TreeShare) (qp : PosShare TreeShare)
variable (O : CellTallies nD τ sig (HIx 1)) (W : Waits sig (HIx 1))

theorem off1_at : k0_off1 = ![(0 : Fin 2).val, 0, 0] := by decide +kernel
theorem off2_at : ∀ i : grid0.Coords, k0_off2 i = ![base i + 8 * 0, 0] := by decide +kernel
theorem off3_at : k0_off3 = ![(0 : Fin 2).val] := by decide +kernel

/-- The counter of the permutation's fetch. -/
abbrev pC : DmaSem sig := cc0_scratch1.sem

/-- The permutation fetched into the tile's scratch. -/
theorem part5_spec :
    iprop((pLoc d ↦{qp} p) ∗ (∃ Y : S2048.Idx → BitVec 32, owns (Val := Elt F) (tile d i) sP fullShare Y) ∗ semVal (tile d i, .dma pC) 0 ∗ Owing d i O W
        ∗ Transfers.MayWaits (tile d i) none O)
      ⊢ wp frame (wpE (defs₀ (F := F)) 𝒱₀ (tile d i) none) Set.univ
          (k0_part5 i xV (Memref.isWhole_whole _) pV (Memref.isWhole_whole _) oV (Memref.isWhole_whole _) sP (Memref.isWhole_whole _) cc0_scratch1
            sIn (Memref.isWhole_whole _) cc0_scoped1 sOut (Memref.isWhole_whole _) cc0_scoped3)
          fun r => iprop(⌜r = firstBlock i⌝ ∗ permHas d i p ∗ (pLoc d ↦{qp} p) ∗ semVal (tile d i, .dma pC) 0 ∗ Owing d i O W) := by
  simp only [k0_part5_eq_skeleton]
  unfold k0_part5_skel
  simp only [Prog.lift, Prog.bind_op, Prog.bind_ret, Prog.pure_eq_ret]
  iintro ⟨Hp, ⟨%Y, Hs⟩, Hv, Hw, #Hm⟩
  iapply (enqueue_into (c := tile d i) (src := pV) (dst := sP) (sm := pC) (q := qp) (fs := p) (Z := p) (View.read_whole _ _) (View.set_whole _) rfl
    (View.dmaCredit_pos _ (by decide))) $$ [Hp Hs Hv]
  · isplitl [Hp]; · iexact Hp
    isplitl [Hs] <;> iassumption
  iintro Hf
  unfold Owing
  icases Hw with ⟨%W', %hW, Ho⟩
  iapply (wait_for (c := tile d i) (src := pV) (dst := sP) (sm := pC) rfl) $$ [Hf Ho]
  · isplitl [Hf]; · iexact Hf
    isplitl [Ho] <;> iassumption
  iintro ⟨⟨Hs, Hp⟩, Hv, Ho⟩
  rw [wp_ret]; imodintro
  isplitr
  · ipureintro; rfl
  isplitl [Hs]
  · unfold permHas; iexact Hs
  isplitl [Hp]; · iexact Hp
  isplitl [Hv]; · iexact Hv
  have hins := owing_insert (F := F) d i O W hW (SemLoc.dma pC)
  unfold Owing at hins
  iapply hins $$ Ho

/-- The pipeline loop, from idle slots to the last block on its way out. -/
theorem part6_spec (hp : ∀ c, (p c).toNat < 2048) :
    iprop(permHas d i p ∗ IdleIn d i 0 x q ∗ IdleIn d i 1 x q ∗ IdleOut d i 0 ∗ IdleOut d i 1
        ∗ (oLoc d ↦[orows (base i) (base i + 144)]{fullShare} f) ∗ Owing d i O W ∗ Transfers.MayWaits (tile d i) none O)
      ⊢ wp frame (wpE (defs₀ (F := F)) 𝒱₀ (tile d i) none) Set.univ
          (k0_part6 i xV (Memref.isWhole_whole _) pV (Memref.isWhole_whole _) oV (Memref.isWhole_whole _) sP (Memref.isWhole_whole _) cc0_scratch1
            sIn (Memref.isWhole_whole _) cc0_scoped1 sOut (Memref.isWhole_whole _) cc0_scoped3 (firstBlock i))
          fun r => iprop(⌜r = ⟨A11 18, A12 18, chk13_ok i, chk12_ok⟩⌝ ∗ permHas d i p ∗ IdleIn d i 0 x q ∗ IdleIn d i 1 x q ∗ IdleOut d i 0
            ∗ BusyOut d i 1 x p (base i + 8 * 17) ∗ (oLoc d ↦[orows (base i) (base i + 8 * 17)]{fullShare} (tilesOut x p)) ∗ Owing d i O W) := by
  simp only [k0_part6_eq_skeleton]
  unfold k0_part6_skel
  simp only [Prog.lift, Prog.bind_op, Prog.bind_ret, Prog.pure_eq_ret]
  iintro ⟨Hp, Hi0, Hi1, Ho0, Ho1, Hr, Hw, #Hm⟩
  iapply (start_in d i 0 x q (r := base i + 8 * 0) off1_at off3_at (off2_at i)) $$ Hi0
  iintro Hi0
  iapply (Scf.wp_for_bind frame (wpE (defs₀ (F := F)) 𝒱₀ (tile d i) none) Set.univ _ _ _ k0_t1_ok _ _
    (Inv d i x p f q O W) (fun k acc => body_spec d i x p f q O W k hp acc)) $$ [Hp Hi0 Hi1 Ho0 Ho1 Hr Hw]
  · unfold Inv
    isplitr
    · ipureintro; rfl
    isplitl [Hp]; · iexact Hp
    isplitl [Hi0]
    · rw [inNow_lt d i x q (show 0 < 18 by decide)]; iexact Hi0
    isplitl [Hi1]; · iexact Hi1
    isplitl [Ho0]; · iexact Ho0
    isplitl [Ho1]
    · rw [outPrev_not d i x p (Nat.lt_irrefl 0)]; iexact Ho1
    rw [show base i + 8 * (0 - 1) = base i from rfl, orows_self, pointsTo_empty]
    isplitr; · iempintro
    isplitl [Hr]; · iexact Hr
    isplitl [Hw] <;> iassumption
  iintro %acc HI
  rw [show Scf.trips k0_t1_loop.lb k0_t1_loop.ub k0_t1_loop.st = 18 from trips1]
  unfold Inv
  icases HI with ⟨%hacc, Hp, Hi0, Hi1, Ho0, Ho1, Hdone, Hrest, Hw, -⟩
  subst hacc
  iapply (wp_assume 𝒱₀ _ none Set.univ (chk13_ok i))
  iapply (wp_assume 𝒱₀ _ none Set.univ chk12_ok)
  rw [wp_ret]; imodintro
  ihave Hi0 := (Entails.of_eq (show InNow d i x q 18 = IdleIn d i 0 x q from by unfold InNow; rw [if_neg (by decide)]; rfl)) $$ Hi0
  ihave Ho1 := (Entails.of_eq (outPrev_succ d i x p 17)) $$ Ho1
  isplitr
  · ipureintro; rfl
  isplitl [Hp]; · iexact Hp
  isplitl [Hi0]; · iexact Hi0
  isplitl [Hi1]; · iexact Hi1
  isplitl [Ho0]; · iexact Ho0
  isplitl [Ho1]; · iexact Ho1
  isplitl [Hdone] <;> iassumption

/-- What the tile holds of its own memory when no copy is under way. -/
def Resting : sProp 𝕄 :=
  iprop((∃ Y : S2048.Idx → BitVec 32, owns (Val := Elt F) (tile d i) sP fullShare Y) ∗ semVal (tile d i, .dma pC) 0
    ∗ (∃ Y : S8x2048.Idx → F .f32, owns (Val := Elt F) (tile d i) (inS 0) fullShare Y) ∗ (∃ Y : S8x2048.Idx → F .f32, owns (Val := Elt F) (tile d i) (inS 1) fullShare Y)
    ∗ semVal (tile d i, .dma (inC 0)) 0 ∗ semVal (tile d i, .dma (inC 1)) 0
    ∗ (∃ Y : S8x2048.Idx → F .f32, owns (Val := Elt F) (tile d i) (outS 0) fullShare Y) ∗ (∃ Y : S8x2048.Idx → F .f32, owns (Val := Elt F) (tile d i) (outS 1) fullShare Y)
    ∗ semVal (tile d i, .dma (outC 0)) 0 ∗ semVal (tile d i, .dma (outC 1)) 0)

/-- The whole kernel on one tile. -/
theorem kernel_spec (hp : ∀ c, (p c).toNat < 2048) :
    iprop((xLoc d ↦{q 0} x) ∗ (xLoc d ↦{q 1} x) ∗ (pLoc d ↦{qp} p) ∗ (oLoc d ↦[orows (base i) (base i + 144)]{fullShare} f) ∗ Resting d i
        ∗ Owing d i O W ∗ Transfers.MayWaits (tile d i) none O)
      ⊢ wp frame (wpE (defs₀ (F := F)) 𝒱₀ (tile d i) none) Set.univ
          (cc0_k i xV (Memref.isWhole_whole _) pV (Memref.isWhole_whole _) oV (Memref.isWhole_whole _) sP (Memref.isWhole_whole _) cc0_scratch1
            sIn (Memref.isWhole_whole _) cc0_scoped1 sOut (Memref.isWhole_whole _) cc0_scoped3)
          fun _ => iprop((xLoc d ↦{q 0} x) ∗ (xLoc d ↦{q 1} x) ∗ (pLoc d ↦{qp} p) ∗ (oLoc d ↦[orows (base i) (base i + 144)]{fullShare} (tilesOut x p))
            ∗ Resting d i ∗ Owing d i O W) := by
  simp only [cc0_k_eq_skeleton]
  unfold cc0_k_skel
  unfold Resting
  iintro ⟨Hx0, Hx1, Hp, Hr, ⟨Hs, Hv, Hi0, Hi1, Hiv0, Hiv1, Ho0, Ho1, Hov0, Hov1⟩, Hw, #Hm⟩
  rw [wp_bind]
  ihave H5 := (part5_spec d i p qp O W) $$ [Hp Hs Hv Hw]
  · isplitl [Hp]; · iexact Hp
    isplitl [Hs]; · iexact Hs
    isplitl [Hv]; · iexact Hv
    isplitl [Hw] <;> iassumption
  iapply wp_wand_r
  isplitl [H5]; · iexact H5
  iintro %r ⟨%hr, Hs, Hp, Hv, Hw⟩
  subst hr
  rw [wp_bind]
  ihave H6 := (part6_spec d i x p f q O W hp) $$ [Hs Hx0 Hx1 Hi0 Hi1 Hiv0 Hiv1 Ho0 Ho1 Hov0 Hov1 Hr Hw]
  · unfold IdleIn IdleOut
    isplitl [Hs]; · iexact Hs
    isplitl [Hi0 Hiv0 Hx0]
    · isplitl [Hi0]; · iexact Hi0
      isplitl [Hiv0] <;> iassumption
    isplitl [Hi1 Hiv1 Hx1]
    · isplitl [Hi1]; · iexact Hi1
      isplitl [Hiv1] <;> iassumption
    isplitl [Ho0 Hov0]
    · isplitl [Ho0] <;> iassumption
    isplitl [Ho1 Hov1]
    · isplitl [Ho1] <;> iassumption
    isplitl [Hr]; · iexact Hr
    isplitl [Hw] <;> iassumption
  iapply wp_wand_r
  isplitl [H6]; · iexact H6
  iintro %r ⟨%hr, Hs, Hi0, Hi1, Ho0, Ho1, Hr, Hw⟩
  subst hr
  simp only [Prog.lift, Prog.bind_op, Prog.bind_ret, Prog.pure_eq_ret]
  iapply (wait_out d i 1 x p O W (r := base i + 8 * 17) off43_at) $$ [Ho1 Hw]
  · isplitl [Ho1]; · iexact Ho1
    isplitl [Hw] <;> iassumption
  iintro ⟨Ho1, Hb, Hw⟩
  rw [wp_ret]; imodintro
  unfold IdleIn IdleOut permHas
  icases Hi0 with ⟨Hi0, Hiv0, Hx0⟩
  icases Hi1 with ⟨Hi1, Hiv1, Hx1⟩
  icases Ho0 with ⟨Ho0, Hov0⟩
  icases Ho1 with ⟨Ho1, Hov1⟩
  isplitl [Hx0]; · iexact Hx0
  isplitl [Hx1]; · iexact Hx1
  isplitl [Hp]; · iexact Hp
  isplitl [Hr Hb]
  · iapply (rows_done d i (k := 18) (by decide) (tilesOut x p)) $$ [Hr Hb]
    isplitl [Hr] <;> iassumption
  isplitr [Hw]
  · isplitl [Hs]
    · iexists _; iexact Hs
    isplitl [Hv]; · iexact Hv
    isplitl [Hi0]; · iexact Hi0
    isplitl [Hi1]; · iexact Hi1
    isplitl [Hiv0]; · iexact Hiv0
    isplitl [Hiv1]; · iexact Hiv1
    isplitl [Ho0]; · iexact Ho0
    isplitl [Ho1]; · iexact Ho1
    isplitl [Hov0] <;> iassumption
  · iexact Hw

end Run

end Cert.Proof.Permute
-- ==== Proof.Own.lean ====
/-
  A tile's own memory taken apart into what its run uses, and the tile's obligation in the launch.
-/
module

public import proofs.«01_k».proof.Proof.Tile

@[expose] public section

noncomputable section

namespace Cert.Proof.Permute

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-! ## The two slots of a buffer -/

section Slots

variable {c : Thread nD τ} (M : Memref sig c.2.kind .vmem S2x8x2048 .f32)

/-- Slot `b` of a buffer of two. -/
abbrev slotOf (b : Fin 2) : Memref sig c.2.kind .vmem S8x2048 .f32 :=
  (M.slice (Rect.unit (s := S2x8x2048) ![b.val, 0, 0] S1x8x2048.size (slot_inb b.isLt)) (fun _ => rfl)).squeeze S8x2048 squeezes_S1x8x2048_S8x2048

theorem slot_set (b : Fin 2) :
    (slotOf M b).view.set = (Finset.univ.filter fun j : S2x8x2048.Idx => (j 0).val = b.val).map M.view.emb := by
  refine (View.set_reshape _ _).trans ((View.set_slice _ _).trans ?_)
  congr 1
  ext j
  rw [Rect.mem_set_unit]
  simp only [Finset.mem_filter, Finset.mem_univ, true_and]
  have h1 : (j 1).val < 8 := (j 1).isLt
  have h2 : (j 2).val < 2048 := (j 2).isLt
  constructor
  · intro hj
    have h := hj 0
    have ha : b.val ≤ (j 0).val := h.1
    have hb : (j 0).val < b.val + 1 := h.2
    omega
  · intro hj a
    match a with
    | ⟨0, _⟩ => exact ⟨hj.ge, by show (j 0).val < b.val + 1; omega⟩
    | ⟨1, _⟩ => exact ⟨Nat.zero_le _, by show (j 1).val < 0 + 8; omega⟩
    | ⟨2, _⟩ => exact ⟨Nat.zero_le _, by show (j 2).val < 0 + 2048; omega⟩

theorem slots_union : (slotOf M 0).view.set ∪ (slotOf M 1).view.set = M.view.set := by
  rw [slot_set, slot_set, ← Finset.map_union]
  have h : ((Finset.univ.filter fun j : S2x8x2048.Idx => (j 0).val = (0 : Fin 2).val) ∪ Finset.univ.filter fun j : S2x8x2048.Idx => (j 0).val = (1 : Fin 2).val)
      = Finset.univ := by
    refine Finset.eq_univ_of_forall fun j => ?_
    have h0 : (j 0).val < 2 := (j 0).isLt
    rw [Finset.mem_union, Finset.mem_filter, Finset.mem_filter]
    rcases (show (j 0).val = 0 ∨ (j 0).val = 1 by omega) with h | h
    · exact Or.inl ⟨Finset.mem_univ _, h⟩
    · exact Or.inr ⟨Finset.mem_univ _, h⟩
  rw [h]
  rfl

theorem slots_disjoint : Disjoint (slotOf M 0).view.set (slotOf M 1).view.set := by
  rw [slot_set, slot_set, Finset.disjoint_map]
  refine Finset.disjoint_left.mpr fun j h0 h1 => ?_
  rw [Finset.mem_filter] at h0 h1
  exact absurd (h0.2.symm.trans h1.2) (by decide)

/-- Owning the buffer is owning its two slots. -/
theorem slots_iff :
    iprop(∃ g : Buf (Elt F) (M.view.loc c), M.view.loc c ↦[M.view.set]{fullShare} g)
      ⊣⊢ iprop((∃ Y : S8x2048.Idx → F .f32, owns (Val := Elt F) c (slotOf M 0) fullShare Y) ∗ (∃ Y : S8x2048.Idx → F .f32, owns (Val := Elt F) c (slotOf M 1) fullShare Y) : sProp 𝕄) := by
  constructor
  · iintro ⟨%g, H⟩
    rw [← slots_union M]
    ihave H' := (pointsTo_union (slots_disjoint M)).1 $$ H
    icases H' with ⟨H0, H1⟩
    isplitl [H0]
    · iexists _; iapply (owns_intro c (slotOf M 0) fullShare g) $$ H0
    · iexists _; iapply (owns_intro c (slotOf M 1) fullShare g) $$ H1
  · unfold owns
    iintro ⟨⟨%Y, %g0, -, H0⟩, ⟨%Y', %g1, -, H1⟩⟩
    rw [← slots_union M]
    iexists _
    iapply (pointsTo_join (slots_disjoint M)) $$ [H0 H1]
    isplitl [H0] <;> iassumption

end Slots

/-! ## A tile's own memory -/

section Own

variable (d : Dev nD) (i : grid0.Coords)

/-- The tile's cell of a copy's counter. -/
abbrev cellOf' (s : DmaSem sig) : GSem nD τ sig := (tile d i, .dma s)

theorem cell_ne {a b : DmaSem sig} (h : a ≠ b) : cellOf' d i a ≠ cellOf' d i b := by
  intro e
  exact h (SemLoc.dma.inj (congrArg Prod.snd e))

theorem cell_own {a : DmaSem sig} (h : (SemLoc.dma a : SemLoc sig).isScoped .scVector = true) : cellOf' d i a ∈ ownCells (tile d i) :=
  mem_ownCells.mpr ⟨rfl, h⟩

abbrev bufOf (b : Ref sig .scVector) : DevRef τ sig := (Proc.scVector (cV i) (jV i)).devRef b

theorem buf_ne {a b : Ref sig .scVector} (h : a ≠ b) : bufOf i a ≠ bufOf i b := fun e => h (Proc.devRef_injective _ e)

/-- The counters the run does not use. -/
def otherCells : Finset (GSem nD τ sig) :=
  (((((ownCells (tile d i)).erase (cellOf' d i pC)).erase (cellOf' d i (inC 0))).erase (cellOf' d i (inC 1))).erase (cellOf' d i (outC 0))).erase (cellOf' d i (outC 1))

/-- The buffers the run does not use. -/
def otherBufs : Finset (DevRef τ sig) :=
  (((ownRefs (τ := τ) (.scVector (cV i) (jV i))).erase (bufOf i cc0_scratch0)).erase (bufOf i cc0_scoped0)).erase (bufOf i cc0_scoped2)

theorem cells_split :
    (ownSems0 (tile d i) : sProp 𝕄)
      = iprop(semVal (cellOf' d i pC) 0 ∗ semVal (cellOf' d i (inC 0)) 0 ∗ semVal (cellOf' d i (inC 1)) 0 ∗ semVal (cellOf' d i (outC 0)) 0
          ∗ semVal (cellOf' d i (outC 1)) 0 ∗ bigSep (otherCells d i) fun g => semVal g 0) := by
  unfold SparseCore.Cfg.ownSems0 otherCells
  rw [SparseCore.bigSep_erase' (cell_own d i (a := pC) (by decide +kernel)),
    SparseCore.bigSep_erase' (i := cellOf' d i (inC 0)) (by
      simp only [Finset.mem_erase]; exact ⟨cell_ne d i (by decide +kernel), cell_own d i (by decide +kernel)⟩),
    SparseCore.bigSep_erase' (i := cellOf' d i (inC 1)) (by
      simp only [Finset.mem_erase]; exact ⟨cell_ne d i (by decide +kernel), cell_ne d i (by decide +kernel), cell_own d i (by decide +kernel)⟩),
    SparseCore.bigSep_erase' (i := cellOf' d i (outC 0)) (by
      simp only [Finset.mem_erase]
      exact ⟨cell_ne d i (by decide +kernel), cell_ne d i (by decide +kernel), cell_ne d i (by decide +kernel), cell_own d i (by decide +kernel)⟩),
    SparseCore.bigSep_erase' (i := cellOf' d i (outC 1)) (by
      simp only [Finset.mem_erase]
      exact ⟨cell_ne d i (by decide +kernel), cell_ne d i (by decide +kernel), cell_ne d i (by decide +kernel), cell_ne d i (by decide +kernel),
        cell_own d i (by decide +kernel)⟩)]

theorem bufs_split :
    (ownBufs (tile d i) : sProp 𝕄)
      = iprop((∃ g, (tile d i).loc cc0_scratch0 ↦{fullShare} g) ∗ (∃ g, (tile d i).loc cc0_scoped0 ↦{fullShare} g)
          ∗ (∃ g, (tile d i).loc cc0_scoped2 ↦{fullShare} g) ∗ bigSep (otherBufs i) fun b => iprop(∃ g, ((d, b) : Loc nD τ sig) ↦{fullShare} g)) := by
  have hown : ∀ b : Ref sig .scVector, (bufOf i b).owner = (bufOf i cc0_scratch0).owner → bufOf i b ∈ ownRefs (τ := τ) (.scVector (cV i) (jV i)) :=
    fun b h => SparseCore.Cfg.mem_ownRefs_of_owner (p := Proc.scVector (cV i) (jV i)) h
  unfold SparseCore.Cfg.ownBufs otherBufs
  refine (SparseCore.bigSep_erase' (hown cc0_scratch0 rfl)).trans ?_
  rw [SparseCore.bigSep_erase' (i := bufOf i cc0_scoped0) (by
      simp only [Finset.mem_erase]; exact ⟨buf_ne i (by decide), hown _ rfl⟩),
    SparseCore.bigSep_erase' (i := bufOf i cc0_scoped2) (by
      simp only [Finset.mem_erase]; exact ⟨buf_ne i (by decide), buf_ne i (by decide), hown _ rfl⟩)]

/-- A tile's scoped memory is what its run uses, at rest, and the rest. -/
theorem own_iff (hF : (K (F := F)).Facts) :
    iprop(scopedBufs (tile d i) ∗ scopedSems0 (tile d i))
      ⊣⊢ iprop(Resting d i ∗ (bigSep (otherBufs i) fun b => iprop(∃ g, ((d, b) : Loc nD τ sig) ↦{fullShare} g)) ∗ bigSep (otherCells d i) fun g => semVal g 0 : sProp 𝕄) := by
  rw [(K (F := F)).scopedBufs_V hF d (cV i) (jV i), SparseCore.Cfg.scopedSems0_V (Val := Elt F) d (cV i) (jV i), cells_split, bufs_split]
  have hin := slots_iff (F := F) (c := tile d i) sIn
  have hout := slots_iff (F := F) (c := tile d i) sOut
  have hset : ∀ (b : Ref sig .scVector), (Memref.whole b).view.set = Finset.univ := fun b => View.set_whole b
  unfold Resting
  constructor
  · iintro ⟨⟨⟨%gp, Hs⟩, ⟨%gi, Hi⟩, ⟨%go, Ho⟩, Hb⟩, ⟨Hv, Hi0, Hi1, Ho0, Ho1, Hc⟩⟩
    ihave Hi' := hin.1 $$ [Hi]
    · iexists gi; rw [hset]; iexact Hi
    ihave Ho' := hout.1 $$ [Ho]
    · iexists go; rw [hset]; iexact Ho
    icases Hi' with ⟨Hs0, Hs1⟩
    icases Ho' with ⟨Ht0, Ht1⟩
    isplitr [Hb Hc]
    · isplitl [Hs]
      · iexists gp; iapply (Entails.of_eq (owns_whole (tile d i) cc0_scratch0 fullShare gp).symm) $$ Hs
      isplitl [Hv]; · iexact Hv
      isplitl [Hs0]; · iexact Hs0
      isplitl [Hs1]; · iexact Hs1
      isplitl [Hi0]; · iexact Hi0
      isplitl [Hi1]; · iexact Hi1
      isplitl [Ht0]; · iexact Ht0
      isplitl [Ht1]; · iexact Ht1
      isplitl [Ho0] <;> iassumption
    · isplitl [Hb] <;> iassumption
  · iintro ⟨⟨⟨%gp, Hs⟩, Hv, Hs0, Hs1, Hi0, Hi1, Ht0, Ht1, Ho0, Ho1⟩, Hb, Hc⟩
    ihave Hi' := hin.2 $$ [Hs0 Hs1]
    · isplitl [Hs0] <;> iassumption
    ihave Ho' := hout.2 $$ [Ht0 Ht1]
    · isplitl [Ht0] <;> iassumption
    icases Hi' with ⟨%gi, Hi⟩
    icases Ho' with ⟨%go, Ho⟩
    isplitr [Hv Hi0 Hi1 Ho0 Ho1 Hc]
    · isplitl [Hs]
      · iexists gp; iapply (Entails.of_eq (owns_whole (tile d i) cc0_scratch0 fullShare gp)) $$ Hs
      isplitl [Hi]
      · iexists gi; rw [hset]; iexact Hi
      isplitl [Ho]
      · iexists go; rw [hset]; iexact Ho
      iexact Hb
    · isplitl [Hv]; · iexact Hv
      isplitl [Hi0]; · iexact Hi0
      isplitl [Hi1]; · iexact Hi1
      isplitl [Ho0]; · iexact Ho0
      isplitl [Ho1] <;> iassumption

end Own

end Cert.Proof.Permute
-- ==== Proof.Deal.lean ====
/-
  What the launch hands the SparseCores and each tile: a read share of the input and of the permutation, and the rows of the
  output the tile writes; with the tile's obligation and the two ways of dividing.
-/
module

public import proofs.«01_k».proof.Proof.Own

@[expose] public section

noncomputable section

namespace Cert.Proof.Permute

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

section Deal

variable (X : Dev nD → S16384x2048.Idx → F .f32) (pm : Dev nD → S2048.Idx → BitVec 32) (f₀ : Dev nD → S4608x2048.Idx → F .f32)

/-- The share of the two inputs that SparseCore `c` reads with, and that its tile `t` reads with. -/
abbrev coreQ (c : ℕ) : PosShare TreeShare := Transfers.shareTokN fullShare c
abbrev tileQ (c t : ℕ) : PosShare TreeShare := Transfers.shareTokN (coreQ c) t

/-- SparseCore `c`'s part of the call, the output's rows at `g`. -/
def corePart (g : S4608x2048.Idx → F .f32) (d : Dev nD) (c : ℕ) : sProp 𝕄 :=
  iprop((xLoc d ↦{coreQ c} X d) ∗ (pLoc d ↦{coreQ c} pm d) ∗ oLoc d ↦[orows (2304 * c) (2304 * c + 2304)]{fullShare} g)

/-- Tile `t`'s part of it. -/
def tilePart (g : S4608x2048.Idx → F .f32) (d : Dev nD) (c t : ℕ) : sProp 𝕄 :=
  iprop((xLoc d ↦{tileQ c t} X d) ∗ (pLoc d ↦{tileQ c t} pm d) ∗ oLoc d ↦[orows (144 * t + 2304 * c) (144 * t + 2304 * c + 144)]{fullShare} g)

instance corePart_storable (g : S4608x2048.Idx → F .f32) (d : Dev nD) (c : ℕ) : BI.Storable (upEmb : UEmb _ 𝕄) (corePart X pm g d c) := by
  unfold corePart; infer_instance
instance tilePart_storable (g : S4608x2048.Idx → F .f32) (d : Dev nD) (c t : ℕ) : BI.Storable (upEmb : UEmb _ 𝕄) (tilePart X pm g d c t) := by
  unfold tilePart; infer_instance

/-- What the call's handshakes carry: out with the output's rows as they were, back with the rows written. -/
def P : (K (F := F)).Pay (nD := nD) (Val := Elt F) (Name := ℕ) (U := UU) where
  st := fun _ d c => corePart X pm (f₀ d) d c.val
  dn := fun _ d c => corePart X pm (tilesOut (X d) (pm d)) d c.val
  go := fun _ d c i => tilePart X pm (f₀ d) d c.val i.val
  td := fun _ d c i => tilePart X pm (tilesOut (X d) (pm d)) d c.val i.val
  x := fun _ _ => iprop(emp)

instance P_storable : (P X pm f₀).IsStorable where
  st _ d c := corePart_storable X pm _ d c.val
  dn _ d c := corePart_storable X pm _ d c.val
  go _ d c i := tilePart_storable X pm _ d c.val i.val
  td _ d c i := tilePart_storable X pm _ d c.val i.val

/-! ## One tile -/

theorem two_tokens (d : Dev nD) (q : PosShare TreeShare) (x : S16384x2048.Idx → F .f32) :
    (xLoc d ↦{q} x : sProp 𝕄)
      ⊣⊢ iprop((xLoc d ↦{Transfers.shareDrop q 2} x) ∗ (xLoc d ↦{Transfers.shareTokN q (0 : Fin 2).val} x) ∗ xLoc d ↦{Transfers.shareTokN q (1 : Fin 2).val} x) := by
  have h := Transfers.pointsTo_toks (Val := Elt F) (ℓ := xLoc d) (S := Finset.univ) (f := x) (Lvl := ℕ) (Name := ℕ) (U := UU) (Ix := HIx 1) q 2
  rw [show (Finset.univ : Finset (Fin 2)) = {0, 1} by decide, SparseCore.bigSep_insert' (by decide), bigSep_singleton] at h
  exact h

/-- The kernel on the tile at `i`, from what the launch deals it to what it hands back. -/
theorem tile_body (hF : (K (F := F)).Facts) (hp : ∀ d c, (pm d c).toNat < 2048) (d : Dev nD) (i : grid0.Coords) (O : CellTallies nD τ sig (HIx 1))
    (W : Waits sig (HIx 1)) (hO : ∀ g, O g none = 0) :
    iprop(levAts (K (F := F)).L (K (F := F)).lev ∗ emp ∗ tilePart X pm (f₀ d) d (i 0).val (i 1).val ∗ scopedBufs (tile d i) ∗ scopedSems0 (tile d i)
        ∗ owes (tile d i) O W)
      ⊢ wp frame (wpE (defs₀ (F := F)) 𝒱₀ (tile d i) none) Set.univ
          (cc0_k i xV (Memref.isWhole_whole _) pV (Memref.isWhole_whole _) oV (Memref.isWhole_whole _) sP (Memref.isWhole_whole _) cc0_scratch1
            sIn (Memref.isWhole_whole _) cc0_scoped1 sOut (Memref.isWhole_whole _) cc0_scoped3)
          fun _ => iprop(tilePart X pm (tilesOut (X d) (pm d)) d (i 0).val (i 1).val ∗ scopedBufs (tile d i) ∗ scopedSems0 (tile d i) ∗ Owing d i O W) := by
  iintro ⟨#Hlv, -, Ht, Hb, Hs, Hw⟩
  ihave #Hm := ((K (F := F)).mayWaits_none (thr := tile d i) hO) $$ Hlv
  ihave Hown := (own_iff (F := F) d i hF).1 $$ [Hb Hs]
  · isplitl [Hb] <;> iassumption
  icases Hown with ⟨Hown, Hb, Hs⟩
  unfold tilePart
  icases Ht with ⟨Hx, Hp, Ho⟩
  ihave Hx' := (two_tokens d _ _).1 $$ Hx
  icases Hx' with ⟨Hx, Hx0, Hx1⟩
  ihave Hk := (kernel_spec d i (X d) (pm d) (f₀ d) (fun b => Transfers.shareTokN (tileQ (i 0).val (i 1).val) b.val) (tileQ (i 0).val (i 1).val) O W (hp d)) $$ [Hx0 Hx1 Hp Ho Hown Hw]
  · isplitl [Hx0]; · iexact Hx0
    isplitl [Hx1]; · iexact Hx1
    isplitl [Hp]; · iexact Hp
    isplitl [Ho]; · iexact Ho
    isplitl [Hown]; · iexact Hown
    isplitl [Hw]
    · unfold Owing
      iexists W
      isplitr
      · ipureintro; exact fun w hw => Or.inl hw
      · iexact Hw
    · iexact Hm
  iapply wp_wand_r
  isplitl [Hk]; · iexact Hk
  iintro %_ ⟨Hx0, Hx1, Hp, Ho, Hown, Hw⟩
  ihave Hown' := (own_iff (F := F) d i hF).2 $$ [Hown Hb Hs]
  · isplitl [Hown]; · iexact Hown
    isplitl [Hb] <;> iassumption
  icases Hown' with ⟨Hb, Hs⟩
  isplitl [Hx Hx0 Hx1 Hp Ho]
  · isplitl [Hx Hx0 Hx1]
    · iapply (two_tokens d _ _).2 $$ [Hx Hx0 Hx1]
      isplitl [Hx]; · iexact Hx
      isplitl [Hx0] <;> iassumption
    isplitl [Hp] <;> iassumption
  isplitl [Hb]; · iexact Hb
  isplitl [Hs] <;> iassumption

/-- The coordinates of the tile of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) xV (Memref.isWhole_whole _) pV (Memref.isWhole_whole _) oV (Memref.isWhole_whole _)
          sP (Memref.isWhole_whole _) cc0_scratch1 sIn (Memref.isWhole_whole _) cc0_scoped1 sOut (Memref.isWhole_whole _) cc0_scoped3) ⟨⟩ c s := rfl

theorem done_post {d : Dev nD} {i : grid0.Coords} {A B C : sProp 𝕄} {O : CellTallies nD τ sig (HIx 1)} {W : Waits sig (HIx 1)} {q : Fin 1} :
    iprop(A ∗ B ∗ C ∗ Owing d i O W) ⊢ iprop(A ∗ B ∗ C ∗ ∃ W', ⌜∀ w ∈ W', w ∈ W ∨ w.2 = none ∨ w.2 = some q⌝ ∗ owes (tile d i) O W') := by
  unfold Owing
  iintro ⟨HA, HB, HC, %W', %hW, HO⟩
  isplitl [HA]; · iexact HA
  isplitl [HB]; · iexact HB
  isplitl [HC]; · iexact HC
  iexists W'
  isplitr
  · ipureintro; exact fun w hw => (hW w hw).imp_right Or.inl
  · iexact HO

/-- Every tile meets the call's obligation. -/
theorem tileObl (hF : (K (F := F)).Facts) (hp : ∀ d c, (pm d c).toNat < 2048) : (K (F := F)).TileObl (D (F := F)) 𝒱 (P X pm f₀) v₀ 0 := by
  intro d c i O W hO _ _
  simp only [show (P X pm f₀).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact (tile_body X pm f₀ hF hp d (coordsV ⟨_, hc.1⟩ ⟨_, hc.2⟩) O W hO).trans (wp_mono frame _ _ fun _ => done_post)

/-! ## A SparseCore's part is its tiles', the call's is its SparseCores' -/

theorem tiles_disjoint (c : ℕ) : ∀ t ∈ (Finset.univ : Finset (Fin 16)), ∀ t' ∈ (Finset.univ : Finset (Fin 16)), t ≠ t'
    → Disjoint (orows (144 * t.val + 2304 * c) (144 * t.val + 2304 * c + 144)) (orows (144 * t'.val + 2304 * c) (144 * t'.val + 2304 * c + 144)) := by
  intro t _ t' _ h
  refine Finset.disjoint_left.mpr fun j h1 h2 => h (Fin.ext ?_)
  rw [mem_orows] at h1 h2
  omega

theorem tiles_cover (c : ℕ) :
    ((Finset.univ : Finset (Fin 16)).biUnion fun t => orows (144 * t.val + 2304 * c) (144 * t.val + 2304 * c + 144)) = orows (2304 * c) (2304 * c + 2304) := by
  ext j
  simp only [Finset.mem_biUnion, Finset.mem_univ, true_and, mem_orows]
  constructor
  · rintro ⟨t, h⟩
    have := t.isLt
    omega
  · intro h
    refine ⟨⟨((j 0).val - 2304 * c) / 144, by omega⟩, ?_⟩
    show 144 * (((j 0).val - 2304 * c) / 144) + 2304 * c ≤ _ ∧ _ < 144 * (((j 0).val - 2304 * c) / 144) + 2304 * c + 144
    omega

theorem cores_disjoint : ∀ c ∈ (Finset.univ : Finset (Fin 2)), ∀ c' ∈ (Finset.univ : Finset (Fin 2)), c ≠ c'
    → Disjoint (orows (2304 * c.val) (2304 * c.val + 2304)) (orows (2304 * c'.val) (2304 * c'.val + 2304)) := by
  intro t _ t' _ h
  refine Finset.disjoint_left.mpr fun j h1 h2 => h (Fin.ext ?_)
  rw [mem_orows] at h1 h2
  omega

theorem cores_cover : ((Finset.univ : Finset (Fin 2)).biUnion fun c => orows (2304 * c.val) (2304 * c.val + 2304)) = Finset.univ := by
  refine Finset.eq_univ_of_forall fun j => ?_
  have hj : (j 0).val < 4608 := (j 0).isLt
  simp only [Finset.mem_biUnion, Finset.mem_univ, true_and, mem_orows]
  refine ⟨⟨(j 0).val / 2304, by omega⟩, ?_⟩
  show 2304 * ((j 0).val / 2304) ≤ _ ∧ _ < 2304 * ((j 0).val / 2304) + 2304
  omega

/-- What stays with a SparseCore while its tiles run. -/
def coreRest (d : Dev nD) (c : ℕ) : sProp 𝕄 := iprop((xLoc d ↦{Transfers.shareDrop (coreQ c) 16} X d) ∗ pLoc d ↦{Transfers.shareDrop (coreQ c) 16} pm d)

theorem core_iff (g : S4608x2048.Idx → F .f32) (d : Dev nD) (c : ℕ) :
    corePart X pm g d c ⊣⊢ iprop(coreRest X pm d c ∗ bigSep Finset.univ fun t : Fin 16 => tilePart X pm g d c t.val) := by
  have hx := Transfers.pointsTo_toks (Val := Elt F) (ℓ := xLoc d) (S := Finset.univ) (f := X d) (Lvl := ℕ) (Name := ℕ) (U := UU) (Ix := HIx 1) (coreQ c) 16
  have hp := Transfers.pointsTo_toks (Val := Elt F) (ℓ := pLoc d) (S := Finset.univ) (f := pm d) (Lvl := ℕ) (Name := ℕ) (U := UU) (Ix := HIx 1) (coreQ c) 16
  unfold corePart coreRest tilePart
  rw [bigSep_sep', bigSep_sep', ← tiles_cover c, pointsTo_biUnion _ _ (tiles_disjoint c)]
  constructor
  · iintro ⟨Hx, Hp, Ho⟩
    ihave Hx' := hx.1 $$ Hx
    ihave Hp' := hp.1 $$ Hp
    icases Hx' with ⟨Hx, Hxs⟩
    icases Hp' with ⟨Hp, Hps⟩
    isplitl [Hx Hp]
    · isplitl [Hx] <;> iassumption
    isplitl [Hxs]; · iexact Hxs
    isplitl [Hps] <;> iassumption
  · iintro ⟨⟨Hx, Hp⟩, Hxs, Hps, Ho⟩
    isplitl [Hx Hxs]
    · iapply hx.2 $$ [Hx Hxs]
      isplitl [Hx] <;> iassumption
    isplitl [Hp Hps]
    · iapply hp.2 $$ [Hp Hps]
      isplitl [Hp] <;> iassumption
    iexact Ho

theorem vecSplit : (K (F := F)).VecSplit' (P X pm f₀) 0 := by
  intro d c
  show corePart X pm (f₀ d) d c.val ⊢ |={Set.univ}=> iprop((bigSep Finset.univ fun t : Fin 16 => tilePart X pm (f₀ d) d c.val t.val)
    ∗ ((bigSep Finset.univ fun t : Fin 16 => tilePart X pm (tilesOut (X d) (pm d)) d c.val t.val) -∗ corePart X pm (tilesOut (X d) (pm d)) d c.val))
  iintro H
  imodintro
  ihave H' := (core_iff X pm (f₀ d) d c.val).1 $$ H
  icases H' with ⟨Hr, Ht⟩
  isplitl [Ht]; · iexact Ht
  iintro Ht
  iapply (core_iff X pm (tilesOut (X d) (pm d)) d c.val).2 $$ [Hr Ht]
  isplitl [Hr] <;> iassumption

/-- What stays with the TensorCore while the SparseCores run. -/
def callRest (d : Dev nD) : sProp 𝕄 := iprop((xLoc d ↦{Transfers.shareDrop fullShare 2} X d) ∗ pLoc d ↦{Transfers.shareDrop fullShare 2} pm d)

theorem call_iff (g : S4608x2048.Idx → F .f32) (d : Dev nD) :
    iprop((xLoc d ↦{fullShare} X d) ∗ (pLoc d ↦{fullShare} pm d) ∗ oLoc d ↦{fullShare} g)
      ⊣⊢ iprop(callRest X pm d ∗ bigSep Finset.univ fun c : Fin 2 => corePart X pm g d c.val) := by
  have hx := Transfers.pointsTo_toks (Val := Elt F) (ℓ := xLoc d) (S := Finset.univ) (f := X d) (Lvl := ℕ) (Name := ℕ) (U := UU) (Ix := HIx 1) fullShare 2
  have hp := Transfers.pointsTo_toks (Val := Elt F) (ℓ := pLoc d) (S := Finset.univ) (f := pm d) (Lvl := ℕ) (Name := ℕ) (U := UU) (Ix := HIx 1) fullShare 2
  have ho := pointsTo_biUnion (Val := Elt F) (ℓ := oLoc d) (q := fullShare) (f := g) (Lvl := ℕ) (Name := ℕ) (U := UU) (Ix := HIx 1) (Finset.univ : Finset (Fin 2)) _ cores_disjoint
  rw [cores_cover] at ho
  unfold corePart callRest
  rw [bigSep_sep', bigSep_sep', ← ho]
  constructor
  · iintro ⟨Hx, Hp, Ho⟩
    ihave Hx' := hx.1 $$ Hx
    ihave Hp' := hp.1 $$ Hp
    icases Hx' with ⟨Hx, Hxs⟩
    icases Hp' with ⟨Hp, Hps⟩
    isplitl [Hx Hp]
    · isplitl [Hx] <;> iassumption
    isplitl [Hxs]; · iexact Hxs
    isplitl [Hps] <;> iassumption
  · iintro ⟨⟨Hx, Hp⟩, Hxs, Hps, Ho⟩
    isplitl [Hx Hxs]
    · iapply hx.2 $$ [Hx Hxs]
      isplitl [Hx] <;> iassumption
    isplitl [Hp Hps]
    · iapply hp.2 $$ [Hp Hps]
      isplitl [Hp] <;> iassumption
    iexact Ho

end Deal

end Cert.Proof.Permute
-- ==== Proof.Point.lean ====
/-
  The kernel of the TensorCore's call, at one grid point: it reads a block of 512 rows and the permutation, keeps in its
  scratch the matrix that has a one at each (row picked, column), and writes the block's product with that matrix.
-/
module

public import proofs.«01_k».proof.Proof.Gather
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value

@[expose] public section

noncomputable section

namespace Cert.Proof.Permute

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-- The whole rectangle at offsets zero: reading through it changes nothing, -/
theorem emb_whole {n : Fin 2 → ℕ} (inb : ∀ a, (![0, 0] : Fin 2 → ℕ) a + n a ≤ n a) (x : (⟨2, n⟩ : Shape).Idx) :
    (Rect.unit (s := ⟨2, n⟩) ![0, 0] n inb).emb x = x := by
  have h : ∀ a : Fin 2, (![0, 0] : Fin 2 → ℕ) a = 0 := by decide
  funext a
  refine Fin.ext ?_
  show (![0, 0] : Fin 2 → ℕ) a + 1 * (x a).val = (x a).val
  rw [h a]; omega

/-- and overlaying it replaces everything. -/
theorem overlay_whole {n : Fin 2 → ℕ} {α : Type} (inb : ∀ a, (![0, 0] : Fin 2 → ℕ) a + n a ≤ n a) (X w : (⟨2, n⟩ : Shape).Idx → α) :
    (Rect.unit (s := ⟨2, n⟩) ![0, 0] n inb).overlay X w = w := by
  funext x
  have := Rect.overlay_emb (Rect.unit (s := ⟨2, n⟩) ![0, 0] n inb) X w x
  rwa [emb_whole inb x] at this

/-- The kernel's test for the first grid point. -/
theorem first_point : ∀ n : Fin 23, (Scalar.cmpi .ne (Scalar.extui (Scalar.cmpi .eq (BitVec.ofNat 32 n.val) 0#32) : BitVec 32) 0#32 = 1#1) ↔ n.val = 0 := by
  decide +kernel

section Body

variable (d : Dev nD) (i : grid1.Coords)
  (a1 : Memref sig .tc .vmem S512x2048 .f32) (h1 : a1.IsWhole) (a2 : Memref sig .tc .vmem S1x2048 .i32) (h2 : a2.IsWhole)
  (a3 : Memref sig .tc .vmem S512x2048 .f32) (h3 : a3.IsWhole) (a4 : Memref sig .tc .vmem S2048x2048 .bf16) (h4 : a4.IsWhole)
  (x : S512x2048.Idx → F .f32) (p : S1x2048.Idx → BitVec 32) (o : S512x2048.Idx → F .f32) (w : S2048x2048.Idx → F .bf16)

/-- At a grid point the kernel leaves the block's product with the matrix in the output's buffer, the matrix in the scratch. -/
theorem point_spec (hw : (i 0).val ≠ 0 → w = k1_pay1 p) :
    iprop(owns (Val := Elt F) (SparseCore.T d) a1 fullShare x ∗ owns (Val := Elt F) (SparseCore.T d) a2 fullShare p
        ∗ owns (Val := Elt F) (SparseCore.T d) a3 fullShare o ∗ owns (Val := Elt F) (SparseCore.T d) a4 fullShare w)
      ⊢ (wp frame (wpE (defs₀ (F := F)) 𝒱₀ (SparseCore.T d) none) Set.univ (cc1__tc_body i a1 h1 a2 h2 a3 h3 a4 h4) fun _ =>
          iprop(owns (Val := Elt F) (SparseCore.T d) a1 fullShare x ∗ owns (Val := Elt F) (SparseCore.T d) a2 fullShare p
            ∗ owns (Val := Elt F) (SparseCore.T d) a3 fullShare (k1_pay2 x (k1_pay1 p))
            ∗ owns (Val := Elt F) (SparseCore.T d) a4 fullShare (k1_pay1 p)) : sProp 𝕄) := by
  rw [cc1__tc_body_eq_skeleton]
  unfold cc1__tc_body_skel
  dsimp only
  have hc := first_point (i 0)
  have hrest : iprop(owns (Val := Elt F) (SparseCore.T d) a1 fullShare x ∗ owns (Val := Elt F) (SparseCore.T d) a2 fullShare p
        ∗ owns (Val := Elt F) (SparseCore.T d) a3 fullShare o ∗ owns (Val := Elt F) (SparseCore.T d) a4 fullShare (k1_pay1 p))
      ⊢ (wp frame (wpE (defs₀ (F := F)) 𝒱₀ (SparseCore.T d) none) Set.univ
          (.op (.load a1 (Rect.unit (s := S512x2048) ![0, 0] S512x2048.size inb_S512x2048_S512x2048_0_0).toLoadRect (View.loadsAt_vmem h_S512x2048)) fun v3 =>
            .op (.load a4 (Rect.unit (s := S2048x2048) ![0, 0] S2048x2048.size inb_S2048x2048_S2048x2048_0_0).toLoadRect (View.loadsAt_vmem h_S2048x2048)) fun v6 =>
            .op (.load a3 (Rect.unit (s := S512x2048) ![0, 0] S512x2048.size inb_S512x2048_S512x2048_0_0).toLoadRect (View.loadsAt_vmem h_S512x2048)) fun _ =>
            .op (.store a3 (Rect.unit (s := S512x2048) ![0, 0] S512x2048.size inb_S512x2048_S512x2048_0_0) (k1_pay2 v3 v6) Finset.univ
              (View.stores_vmem_bits_univ h_S512x2048 rfl) (.inl rfl)) fun _ => .ret PUnit.unit) fun _ =>
          iprop(owns (Val := Elt F) (SparseCore.T d) a1 fullShare x ∗ owns (Val := Elt F) (SparseCore.T d) a2 fullShare p
            ∗ owns (Val := Elt F) (SparseCore.T d) a3 fullShare (k1_pay2 x (k1_pay1 p))
            ∗ owns (Val := Elt F) (SparseCore.T d) a4 fullShare (k1_pay1 p)) : sProp 𝕄) := by
    iintro ⟨H1, H2, H3, H4⟩
    iapply (load_owns (Val := Elt F) 𝒱₀ (SparseCore.T d) none) $$ H1
    iintro H1
    iapply (load_owns (Val := Elt F) 𝒱₀ (SparseCore.T d) none) $$ H4
    iintro H4
    iapply (load_owns (Val := Elt F) 𝒱₀ (SparseCore.T d) none) $$ H3
    iintro H3
    iapply (store_owns (Val := Elt F) 𝒱₀ (SparseCore.T d) none) $$ H3
    iintro H3
    simp only [emb_whole, overlay_whole]
    rw [wp_ret]
    imodintro
    isplitl [H1]; · iexact H1
    isplitl [H2]; · iexact H2
    isplitl [H3]; · iexact H3
    iexact H4
  by_cases hz : (i 0).val = 0
  · rw [dif_pos (hc.2 hz)]
    simp only [Prog.lift, Prog.bind_op, Prog.bind_ret, Prog.pure_eq_ret]
    iintro ⟨H1, H2, H3, H4⟩
    iapply (load_owns (Val := Elt F) 𝒱₀ (SparseCore.T d) none) $$ H2
    iintro H2
    iapply (load_owns (Val := Elt F) 𝒱₀ (SparseCore.T d) none) $$ H4
    iintro H4
    iapply (store_owns (Val := Elt F) 𝒱₀ (SparseCore.T d) none) $$ H4
    iintro H4
    simp only [emb_whole, overlay_whole]
    iapply hrest
    isplitl [H1]; · iexact H1
    isplitl [H2]; · iexact H2
    isplitl [H3]; · iexact H3
    iexact H4
  · rw [dif_neg fun h => hz (hc.1 h)]
    simp only [Prog.lift, Prog.bind_op, Prog.bind_ret, Prog.pure_eq_ret]
    rw [hw hz]
    exact hrest

end Body

end Cert.Proof.Permute
-- ==== Proof.Region.lean ====
/-
  The TensorCore's call as a whole: the invariant its pipeline keeps, and the array it leaves.
-/
module

public import proofs.«01_k».proof.Proof.Point

@[expose] public section

noncomputable section

namespace Cert.Proof.Permute

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-- Block `b` of 512 rows of an array of 16384. -/
def blockRows (x : S16384x2048.Idx → F .f32) (b : ℕ) : S512x2048.Idx → F .f32 :=
  fun j => x (ix2 ⟨(512 * b + (j 0).val) % 16384, Nat.mod_lt _ (by decide)⟩ (j 1))

/-- The array the call leaves: from row 4608 on, each block's product with the matrix of the permutation; above it, as it was. -/
def blocksOut (x : S16384x2048.Idx → F .f32) (p : S1x2048.Idx → BitVec 32) (f : S16384x2048.Idx → F .f32) : S16384x2048.Idx → F .f32 :=
  fun j => if 4608 ≤ (j 0).val then
    k1_pay2 (blockRows x ((j 0).val / 512)) (k1_pay1 p) (ix2 ⟨(j 0).val % 512, Nat.mod_lt _ (by decide)⟩ (j 1)) else f j

theorem point_val : ∀ t : Fin grid1.N, ((grid1.coords t) 0).val = t.val := by decide +kernel
theorem index_0 : ∀ t : Fin grid1.N, ∀ a, win1_0.index t a = (![t.val + 9, 0] : Fin 2 → ℕ) a := by decide +kernel
theorem index_1 : ∀ t : Fin grid1.N, ∀ a, win1_1.index t a = (![0, 0] : Fin 2 → ℕ) a := by decide +kernel
theorem index_2 : ∀ t : Fin grid1.N, ∀ a, win1_2.index t a = (![t.val + 9, 0] : Fin 2 → ℕ) a := by decide +kernel

/-- Window 0's block at a point is a block of rows; -/
theorem read_0 (t : Fin grid1.N) (x : S16384x2048.Idx → F .f32) : (win1_0.blk t).view.read (Elt F) x = blockRows x (t.val + 9) := by
  have ht : t.val < 23 := t.isLt
  funext j
  have hj : (j 0).val < 512 := (j 0).isLt
  show x ((win1_0.rect t).emb j) = x _
  congr 1
  funext a
  refine Fin.ext ?_
  rw [Pipeline.Window.rect_emb_val win1_0 t j a, index_0]
  match a with
  | 0 => show (t.val + 9) * 512 + (j 0).val = (512 * (t.val + 9) + (j 0).val) % 16384; omega
  | 1 => show 0 * 2048 + (j 1).val = (j 1).val; omega

/-- window 1's is its whole array; -/
theorem read_1 (t : Fin grid1.N) (p : S1x2048.Idx → BitVec 32) : (win1_1.blk t).view.read (Elt F) p = p := by
  funext j
  show p ((win1_1.rect t).emb j) = p _
  congr 1
  funext a
  refine Fin.ext ?_
  rw [Pipeline.Window.rect_emb_val win1_1 t j a, index_1]
  match a with
  | 0 => show 0 * 1 + (j 0).val = (j 0).val; omega
  | 1 => show 0 * 2048 + (j 1).val = (j 1).val; omega

/-- an element of window 2's sits in the array at the block's row plus its own. -/
theorem emb_2 (t : Fin grid1.N) (j : S512x2048.Idx) :
    (((win1_2.blk t).view.emb j : S16384x2048.Idx) 0).val = 512 * (t.val + 9) + (j 0).val ∧ (((win1_2.blk t).view.emb j : S16384x2048.Idx) 1).val = (j 1).val := by
  constructor
  · show ((win1_2.rect t).emb j 0).val = _
    rw [Pipeline.Window.rect_emb_val win1_2 t j 0, index_2]
    show (t.val + 9) * 512 + (j 0).val = _; omega
  · show ((win1_2.rect t).emb j 1).val = _
    rw [Pipeline.Window.rect_emb_val win1_2 t j 1, index_2]
    show 0 * 2048 + (j 1).val = _; omega

section Region

variable (x : Dev nD → S16384x2048.Idx → F .f32) (p : Dev nD → S1x2048.Idx → BitVec 32) (f : Dev nD → S16384x2048.Idx → F .f32)

/-- The scratch between points: after the first, the matrix of the permutation. -/
def scratchAt (d : Dev nD) (n : ℕ) : sProp 𝕄 :=
  iprop(∃ w, ⌜n ≠ 0 → w = k1_pay1 (p d)⌝ ∗ owns (Val := Elt F) (SparseCore.T d) (Memref.whole cc1_scratch0) fullShare w)

/-- The waits recorded before the call or by it, all at or below the level of the first SparseCore call. -/
def waited (d : Dev nD) : Set (SemLoc sig × HIx 1) := fun w => (K (F := F)).lev (SparseCore.T d, w.1) w.2 ≤ 8

/-- The call's proof data. -/
def dat (d : Dev nD) : Pipeline.Dat τ (Elt F) (HIx 1) ℕ UU ℕ cfg1 d where
  A w := match w with
    | ⟨0, _⟩ => x d
    | ⟨1, _⟩ => p d
    | ⟨2, _⟩ => f d
  after w t := match w with
    | ⟨0, _⟩ => blockRows (x d) (t.val + 9)
    | ⟨1, _⟩ => p d
    | ⟨2, _⟩ => k1_pay2 (blockRows (x d) (t.val + 9)) (k1_pay1 (p d))
  Φ t := scratchAt p d t.val
  q _ := fullShare
  owed _ := 0
  recorded _ := waited (F := F) d

theorem before_0 (d : Dev nD) (t : Fin cfg1.N) (g : S512x2048.Idx → F .f32) : (dat x p f d).before 0 t g = blockRows (x d) (t.val + 9) := by
  rw [(dat x p f d).before_fetched 0 t (fetch1_0 t)]
  exact read_0 t (x d)

theorem before_1 (d : Dev nD) (t : Fin cfg1.N) (g : S1x2048.Idx → BitVec 32) : (dat x p f d).before 1 t g = p d := by
  rw [(dat x p f d).before_in_eq_fetched 1 rfl (fun _ => rfl) (fun _ _ _ => rfl) (fun t => (read_1 (F := F) t (p d)).symm)]
  exact read_1 (F := F) t (p d)

theorem point_obligation (d : Dev nD) : Pipeline.BodyObligation (dat x p f d) (defs₀ (F := F)) 𝒱₀ none Set.univ := fun t => by
  rw [bigSep_W1, bigSep_W1]
  change iprop(scratchAt p d t.val ∗ _ ∗ _) ⊢ wp _ _ _ (bodyAt1 t) fun _ => iprop(scratchAt p d (t.val + 1) ∗ _ ∗ _)
  rw [show (dat x p f d).owesAt none t.succ = (dat x p f d).owesAt none t.castSucc from rfl]
  unfold scratchAt
  iintro ⟨⟨%w, %hw, Hs⟩, Ho, ⟨%g0, H0⟩, ⟨%g1, H1⟩, ⟨%g2, H2⟩⟩
  ihave H0' := (Entails.of_eq (congrArg (owns (Val := Elt F) (SparseCore.T d) (st1_0 t) fullShare) (before_0 x p f d t g0))) $$ H0
  ihave H1' := (Entails.of_eq (congrArg (owns (Val := Elt F) (SparseCore.T d) (st1_1 t) fullShare) (before_1 x p f d t g1))) $$ H1
  ihave Hk := (point_spec d (grid1.coords t) _ (hstage1_0 ((cfg1.slots t 0).cast nbuf1_0)) _ (hstage1_1 ((cfg1.slots t 1).cast nbuf1_1))
    _ (hstage1_2 ((cfg1.slots t 2).cast nbuf1_2)) (Memref.whole cc1_scratch0) (Memref.isWhole_whole _) (blockRows (x d) (t.val + 9)) (p d) _ w
    (fun h => hw (by rwa [point_val] at h))) $$ [H0' H1' H2 Hs]
  · isplitl [H0']; · iexact H0'
    isplitl [H1']; · iexact H1'
    isplitl [H2]; · iexact H2
    iexact Hs
  iapply wp_wand_r
  isplitl [Hk]; · iexact Hk
  iintro %_ ⟨H0, H1, H2, Hs⟩
  isplitl [Hs]
  · iexists _
    isplitr; swap; · iexact Hs
    ipureintro; exact fun _ => rfl
  isplitl [Ho]; · iexact Ho
  isplitl [H0]; · iexact H0
  isplitl [H1]; · iexact H1
  iexact H2

/-- What the output array holds after the call. -/
theorem final_2 (d : Dev nD) : (dat x p f d).arrAt 2 cfg1.N = blocksOut (x d) (p d) (f d) := by
  funext j
  rw [(dat x p f d).arrAt_eq_piecewise 2 (blocksOut (x d) (p d) (f d)) fun t _ => ?_]
  · by_cases h : 4608 ≤ (j 0).val
    · rw [if_pos]
      have hj : (j 0).val < 16384 := (j 0).isLt
      have ht : (j 0).val / 512 - 9 < cfg1.N := by show _ < grid1.N; rw [N_1]; omega
      refine ⟨⟨(j 0).val / 512 - 9, ht⟩, flush1_2 _, ?_⟩
      have e := emb_2 ⟨(j 0).val / 512 - 9, ht⟩ (ix2 ⟨(j 0).val % 512, Nat.mod_lt _ (by decide)⟩ (j 1))
      have : (win1_2.blk ⟨(j 0).val / 512 - 9, ht⟩).view.emb (ix2 ⟨(j 0).val % 512, Nat.mod_lt _ (by decide)⟩ (j 1)) = j := by
        funext a
        refine Fin.ext ?_
        match a with
        | 0 => refine e.1.trans ?_; show 512 * ((j 0).val / 512 - 9 + 9) + (j 0).val % 512 = (j 0).val; omega
        | 1 => exact e.2
      have hm := View.emb_mem_set (win1_2.blk ⟨(j 0).val / 512 - 9, ht⟩).view (ix2 ⟨(j 0).val % 512, Nat.mod_lt _ (by decide)⟩ (j 1))
      exact (congrArg (· ∈ (win1_2.blk ⟨(j 0).val / 512 - 9, ht⟩).view.set) this).mp hm
    · rw [if_neg]
      · show f d j = blocksOut (x d) (p d) (f d) j
        unfold blocksOut
        rw [if_neg h]
      · rintro ⟨t, -, hm⟩
        obtain ⟨y, rfl⟩ := View.exists_emb_of_mem_set _ hm
        have := (emb_2 t y).1
        exact h (by rw [this]; omega)
  · funext y
    have e := emb_2 t y
    have hy : (y 0).val < 512 := (y 0).isLt
    show k1_pay2 (blockRows (x d) (t.val + 9)) (k1_pay1 (p d)) y = blocksOut (x d) (p d) (f d) ((win1_2.blk t).view.emb y)
    unfold blocksOut
    rw [if_pos (by rw [e.1]; omega)]
    have e1 : (((win1_2.blk t).view.emb y : S16384x2048.Idx) 0).val / 512 = t.val + 9 := by rw [e.1]; omega
    rw [e1]
    congr 1
    funext a
    refine Fin.ext ?_
    match a with
    | 0 => show (y 0).val = (((win1_2.blk t).view.emb y : S16384x2048.Idx) 0).val % 512; rw [e.1]; omega
    | 1 => exact e.2.symm

end Region

end Cert.Proof.Permute
-- ==== Proof.Segment.lean ====
/-
  The TensorCore's call as a region of the main program: what it is entered with and what it leaves, and its rule.
-/
module

public import proofs.«01_k».proof.Proof.Region
public import Idealize.ShloMosaic.Lib.Pipeline.Sound

@[expose] public section

noncomputable section

namespace Cert.Proof.Permute

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-- The pipeline takes no table. -/
abbrev adm : (q : Fin 1) → (pcfgs (F := F) q).Adm := fun q => (cfgs q).toPCfg_adm

section Region

variable (x : Dev nD → S16384x2048.Idx → F .f32) (p : Dev nD → S1x2048.Idx → BitVec 32) (f : Dev nD → S16384x2048.Idx → F .f32)

/-- The proof data of the program's one pipeline. -/
def pdats : (q : Fin 1) → (d : Dev nD) → Pipeline.Dat τ (Elt F) (HIx 1) ℕ UU ℕ (Pipeline.pin (pcfgs (F := F)) adm q) d
  | ⟨0, _⟩ => fun d => dat x p f d

/-- The arrays of the call's windows, with the waits the core has recorded by then. -/
def regionHeld (d : Dev nD) (g : S16384x2048.Idx → F .f32) : sProp 𝕄 :=
  iprop((((SparseCore.T d).loc main_v0 : Loc nD τ sig) ↦{fullShare} x d) ∗ (((SparseCore.T d).loc main_v2 : Loc nD τ sig) ↦{fullShare} p d)
    ∗ (((SparseCore.T d).loc main_v3 : Loc nD τ sig) ↦{fullShare} g)
    ∗ ∃ W : Finset (SemLoc sig × HIx 1), ⌜(↑W : Set _) ⊆ waited (F := F) d⌝ ∗ owes (SparseCore.T d) (0 : CellTallies nD τ sig (HIx 1)) W)

theorem arrays_iff (d : Dev nD) (A : (w : Fin cfg1.W) → Buf (Elt F) ((cfg1.win w).arr.view.loc (SparseCore.T d))) :
    (dat x p f d).arrays A = iprop((((SparseCore.T d).loc main_v0 : Loc nD τ sig) ↦{fullShare} A 0) ∗ (((SparseCore.T d).loc main_v2 : Loc nD τ sig) ↦{fullShare} A 1)
      ∗ ((SparseCore.T d).loc main_v3 : Loc nD τ sig) ↦{fullShare} A 2) := by
  unfold Pipeline.Dat.arrays
  rw [bigSep_W1, show (cfg1.win 0).arr.view.set = Finset.univ from (Memref.isWhole_whole main_v0).set_eq_univ,
    show (cfg1.win 1).arr.view.set = Finset.univ from (Memref.isWhole_whole main_v2).set_eq_univ,
    show (cfg1.win 2).arr.view.set = Finset.univ from (Memref.isWhole_whole main_v3).set_eq_univ]
  rfl

/-- The arrays after the last point. -/
theorem arrays_end (d : Dev nD) :
    (dat x p f d).arrays ((dat x p f d).arrAt · cfg1.N) = iprop((((SparseCore.T d).loc main_v0 : Loc nD τ sig) ↦{fullShare} x d)
      ∗ (((SparseCore.T d).loc main_v2 : Loc nD τ sig) ↦{fullShare} p d)
      ∗ ((SparseCore.T d).loc main_v3 : Loc nD τ sig) ↦{fullShare} blocksOut (x d) (p d) (f d)) := by
  rw [arrays_iff, (dat x p f d).arrAt_in 0 rfl cfg1.N, (dat x p f d).arrAt_in 1 rfl cfg1.N, final_2]
  rfl

set_option backward.isDefEq.respectTransparency.types false in
/-- The call as a region: from the three arrays to the three arrays, the third one rewritten. -/
def region : Pipeline.RegionSeg (pcfgs (F := F)) adm (pdats x p f) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody d := (point_obligation x p f d).loose
  hwaits := Pipeline.hwaits_of_owed_zero _ _ _ _ (K (F := F)).L (K (F := F)).lev 0 fun _ _ => rfl
  pre d := regionHeld x p d (f d)
  post d := regionHeld x p d (blocksOut (x d) (p d) (f d))
  X _ := BI.emp
  Y _ := BI.emp
  Z _ := BI.emp
  hentry d := by
    rw [Pipeline.ownSems0_none, show (pdats x p f 0 d).arrays ((pdats x p f 0 d).arrAt · 0) = _ from arrays_iff x p f d _]
    unfold regionHeld
    iintro ⟨⟨Hx, Hp, Hf, HO⟩, -, -⟩
    imodintro
    isplitl [Hx Hp Hf]
    · isplitl [Hx]; · iexact Hx
      isplitl [Hp]; · iexact Hp
      iexact Hf
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun w hw => Or.inl (hW hw)
      iexact HO
    isplitr <;> iempintro
  hin d := by
    rw [show (pdats x p f 0 d).Φ 0 = scratchAt p d 0 from rfl,
      show Pipeline.scopedRest (Pipeline.pin (pcfgs (F := F)) adm 0).spec d = Pipeline.scopedRest spec1 d from rfl, scopedRest1_eq]
    unfold scratchAt
    iintro ⟨-, -, %w, Hw⟩
    iexists w
    isplitr; · ipureintro; exact fun h => absurd rfl h
    iapply (Entails.of_eq (owns_whole (SparseCore.T d) cc1_scratch0 fullShare w).symm)
    iexact Hw
  hout d := by
    rw [Pipeline.ownSems0_none, show (pdats x p f 0 d).Φ (Fin.last _) = scratchAt p d 23 from rfl,
      show Pipeline.scopedRest (Pipeline.pin (pcfgs (F := F)) adm 0).spec d = Pipeline.scopedRest spec1 d from rfl, scopedRest1_eq]
    unfold scratchAt
    iintro ⟨%w, -, Hw⟩
    isplitr; · iempintro
    isplitr; · iempintro
    iexists w
    iapply (Entails.of_eq (owns_whole (SparseCore.T d) cc1_scratch0 fullShare w))
    iexact Hw
  hexit d := by
    rw [show (pdats x p f 0 d).arrays ((pdats x p f 0 d).arrAt · (Pipeline.pin (pcfgs (F := F)) adm 0).N) = _ from arrays_end x p f d]
    unfold regionHeld
    iintro ⟨⟨Hx, Hp, Hf⟩, HO, -, -⟩
    imodintro
    isplitl [Hx]; · iexact Hx
    isplitl [Hp]; · iexact Hp
    isplitl [Hf]; · iexact Hf
    unfold Pipeline.Dat.owesAt Pipeline.owesWithin
    icases HO with ⟨%W, %hW, HO⟩; iexists W
    isplitr; swap; · iexact HO
    ipureintro
    intro w hw
    rcases hW hw with h | h
    · exact h
    · obtain ⟨_, _, rfl⟩ := h
      exact Nat.zero_le 8

theorem region_pre (d : Dev nD) : (region x p f).pre d = regionHeld x p d (f d) := rfl
theorem region_post (d : Dev nD) : (region x p f).post d = regionHeld x p d (blocksOut (x d) (p d) (f d)) := rfl

variable [∀ e, Nonempty (Elt F e)]

/-- The rule of the call at the main program's level. -/
theorem region_call (d : Dev nD) (Q : PUnit → sProp 𝕄) :
    iprop((iprop(boundary (SparseCore.T d) ∗ regionHeld x p d (blocksOut (x d) (p d) (f d))) -∗ Q ⟨⟩)
        ∗ boundary (SparseCore.T d) ∗ regionHeld x p d (f d) ∗ levAts (K (F := F)).L (K (F := F)).lev
        ∗ Pipeline.cellsGhost cfgs EP 0 d ∗ Pipeline.toksInit cfgs EP 0 d)
      ⊢ wp frame (wpE ((K (F := F)).defs D) 𝒱 (SparseCore.T d) none) Set.univ
        (Prog.lift (.customCall (SparseCore.inner (Pipeline.entry 0)) ())) Q := by
  have hl := (K (F := F)).wp_liftProg (D (F := F)) 𝒱 (SparseCore.T d) Set.univ none
    (Prog.op (.customCall (Pipeline.entry 0) ()) fun _ => .ret PUnit.unit) Q
  refine BIBase.Entails.trans ?_ hl
  iintro ⟨Hk, Hb, Hh, HL, Hg, Ht⟩
  iapply (Pipeline.RegionSeg.wp (pcfgs (F := F)) adm (pdats x p f) none cellOf_inj EP defs₀ 𝒱₀ (K (F := F)).L (K (F := F)).lev (region x p f) d none
    (fun _ h => nomatch h) (fun _ => .ret ⟨⟩) Q)
  isplitl [Hk]
  · rw [region_post]
    iintro H
    rw [wp_ret]
    imodintro
    iapply Hk; iexact H
  isplitl [Hb]; · iexact Hb
  isplitl [Hh]; · rw [region_pre]; iexact Hh
  isplitl [HL]; · iexact HL
  isplitl [Hg]; · iexact Hg
  iexact Ht

end Region

end Cert.Proof.Permute
-- ==== Proof.Main.lean ====
/-
  The main program: the reshaping, the SparseCores' call, the TensorCore's call, the two results put together; and the
  program's run from any memory whose permutation is one of lanes.
-/
module

public import proofs.«01_k».proof.Proof.Deal
public import proofs.«01_k».proof.Proof.Segment

@[expose] public section

noncomputable section

namespace Cert.Proof.Permute

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

open Idealize.ShloMosaic.StableHlo (held held_split wp_hlo_within)

/-! ## The arrays and the operations of the main program -/

abbrev rArg0 : DevRef τ sig := Proc.devRef .tc (main_arg0 : Ref sig .tc)
abbrev rArg1 : DevRef τ sig := Proc.devRef .tc (main_arg1 : Ref sig .tc)
abbrev rV0 : DevRef τ sig := Proc.devRef .tc (main_v0 : Ref sig .tc)
abbrev rV1 : DevRef τ sig := Proc.devRef .tc (main_v1 : Ref sig .tc)
abbrev rV2 : DevRef τ sig := Proc.devRef .tc (main_v2 : Ref sig .tc)
abbrev rV3 : DevRef τ sig := Proc.devRef .tc (main_v3 : Ref sig .tc)
abbrev rC : DevRef τ sig := Proc.devRef .tc (main_c : Ref sig .tc)
abbrev rC0 : DevRef τ sig := Proc.devRef .tc (main_c_0 : Ref sig .tc)
abbrev rV4 : DevRef τ sig := Proc.devRef .tc (main_v4 : Ref sig .tc)
abbrev rV5 : DevRef τ sig := Proc.devRef .tc (main_v5 : Ref sig .tc)

/-- `main`'s array into rows. -/
abbrev opRows : HloOp τ sig (Elt F) := StableHlo.reshape main_arg0 main_v0 (rfl : (.f32 : EltTy) = .f32) shapeCasts_S4x4096x2048_S16384x2048
/-- The permutation as one row. -/
abbrev opPerm : HloOp τ sig (Elt F) := StableHlo.reshape main_arg1 main_v2 (rfl : (.i32 : EltTy) = .i32) shapeCasts_S2048_S1x2048
abbrev opC : HloOp τ sig (Elt F) := StableHlo.nullary main_c (constantI S_ 32 0#32)
abbrev opC0 : HloOp τ sig (Elt F) := StableHlo.nullary main_c_0 (constantI S_ 32 0#32)
/-- The SparseCores' rows put over the TensorCore's array, at the place the two constants say. -/
abbrev opJoin : HloOp τ sig (Elt F) := StableHlo.binaryIndexed main_v3 main_v1 ![main_c, main_c_0] ⟨S_, .i32⟩ main_v4 ((fun x u i => Host.dynamicUpdateSlice x u (fun k => (i k (Shape.Idx.first h_S_)).toInt) updateFits_S16384x2048_S4608x2048) : (⟨S16384x2048, .f32⟩ : BufTy).Contents (Elt F) → (⟨S4608x2048, .f32⟩ : BufTy).Contents (Elt F) → (Fin 2 → (⟨S_, .i32⟩ : BufTy).Contents (Elt F)) → (⟨S16384x2048, .f32⟩ : BufTy).Contents (Elt F))
/-- Rows back into `main`'s array. -/
abbrev opBack : HloOp τ sig (Elt F) := StableHlo.reshape main_v4 main_v5 (rfl : (.f32 : EltTy) = .f32) shapeCasts_S16384x2048_S4x4096x2048

/-- The main program's arrays. -/
abbrev arrays10 : Finset (DevRef τ sig) := {rArg0, rArg1, rV0, rV1, rV2, rV3, rC, rC0, rV4, rV5}

theorem opRows_sub : (opRows (F := F)).bufs ⊆ arrays10 := show ({rArg0, rV0} : Finset (DevRef τ sig)) ⊆ arrays10 by decide
theorem opPerm_sub : (opPerm (F := F)).bufs ⊆ arrays10 := show ({rArg1, rV2} : Finset (DevRef τ sig)) ⊆ arrays10 by decide
theorem opC_sub : (opC (F := F)).bufs ⊆ arrays10 := show ({rC} : Finset (DevRef τ sig)) ⊆ arrays10 by decide
theorem opC0_sub : (opC0 (F := F)).bufs ⊆ arrays10 := show ({rC0} : Finset (DevRef τ sig)) ⊆ arrays10 by decide
theorem opJoin_sub : (opJoin (F := F)).bufs ⊆ arrays10 :=
  show (insert rV3 (insert rV1 (insert rV4 (Finset.univ.image fun k : Fin 2 => Proc.devRef .tc ((![main_c, main_c_0] : Fin 2 → Ref sig .tc) k)))) : Finset (DevRef τ sig)) ⊆ arrays10 by decide
theorem opBack_sub : (opBack (F := F)).bufs ⊆ arrays10 := show ({rV4, rV5} : Finset (DevRef τ sig)) ⊆ arrays10 by decide

/-- Three distinct arrays held are each held. -/
theorem held_three (d : Dev nD) (a b c : Ref sig .tc) (hab : (Proc.devRef .tc a) ∉ ({(Proc.devRef .tc b), (Proc.devRef .tc c)} : Finset (DevRef τ sig))) (hbc : (Proc.devRef .tc b) ∉ ({(Proc.devRef .tc c)} : Finset (DevRef τ sig))) (V : Valuation τ sig (Elt F)) :
    (held (SparseCore.T d) {(Proc.devRef .tc a), (Proc.devRef .tc b), (Proc.devRef .tc c)} V : sProp 𝕄)
      = iprop((((SparseCore.T d).loc a : Loc nD τ sig) ↦{fullShare} V (Proc.devRef .tc a)) ∗ (((SparseCore.T d).loc b : Loc nD τ sig) ↦{fullShare} V (Proc.devRef .tc b))
        ∗ ((SparseCore.T d).loc c : Loc nD τ sig) ↦{fullShare} V (Proc.devRef .tc c)) := by
  unfold held
  rw [SparseCore.bigSep_insert' hab, SparseCore.bigSep_insert' hbc, bigSep_singleton]

/-- Some of the arrays held apart from the others. -/
theorem held_part (d : Dev nD) {S : Finset (DevRef τ sig)} (h : S ⊆ arrays10) (V : Valuation τ sig (Elt F)) :
    (held (SparseCore.T d) arrays10 V : sProp 𝕄) = iprop(held (SparseCore.T d) S V ∗ held (SparseCore.T d) (arrays10 \ S) V) := by
  unfold held
  conv_lhs => rw [← Finset.union_sdiff_of_subset h]
  exact bigSep_union Finset.disjoint_sdiff

/-- The others are the same when one of these changes. -/
theorem held_others (d : Dev nD) {S : Finset (DevRef τ sig)} (V : Valuation τ sig (Elt F)) {b : DevRef τ sig} (hb : b ∈ S) (f) :
    (held (SparseCore.T d) (arrays10 \ S) (Function.update V b f) : sProp 𝕄) = held (SparseCore.T d) (arrays10 \ S) V := by
  unfold held
  refine bigSep_congr fun b' hb' => ?_
  rw [Function.update_of_ne]
  rintro rfl
  exact (Finset.mem_sdiff.mp hb').2 hb

/-! ## What each array holds, operation by operation -/

section Run

variable (m : (ℓ : Loc nD τ sig) → Buf (Elt F) ℓ)

/-- The argument's rows. -/
def rows (d : Dev nD) : S16384x2048.Idx → F .f32 :=
  shapeCast S16384x2048 (m ((SparseCore.T d).loc main_arg0) : S4x4096x2048.Idx → F .f32) shapeCasts_S4x4096x2048_S16384x2048
/-- The permutation, -/
def perm (d : Dev nD) : S2048.Idx → BitVec 32 := m (pLoc d)
/-- as one row. -/
def permRow (d : Dev nD) : S1x2048.Idx → BitVec 32 := shapeCast S1x2048 (perm m d) shapeCasts_S2048_S1x2048
/-- The SparseCores' array and the TensorCore's as the launch finds them. -/
def start1 (d : Dev nD) : S4608x2048.Idx → F .f32 := m (oLoc d)
def start3 (d : Dev nD) : S16384x2048.Idx → F .f32 := m ((SparseCore.T d).loc main_v3)
/-- The program's result. -/
def result (d : Dev nD) : S4x4096x2048.Idx → F .f32 :=
  shapeCast S4x4096x2048 (Host.dynamicUpdateSlice (blocksOut (rows m d) (permRow m d) (start3 m d)) (tilesOut (rows m d) (perm m d))
    (fun _ => (0#32 : BitVec 32).toInt) updateFits_S16384x2048_S4608x2048) shapeCasts_S16384x2048_S4x4096x2048

def V0 (d : Dev nD) : Valuation τ sig (Elt F) := fun b => m (d, b)
def V1 (d : Dev nD) : Valuation τ sig (Elt F) := (opRows (F := F)).result (V0 m d)
/-- After the SparseCores' call. -/
def V2 (d : Dev nD) : Valuation τ sig (Elt F) := Function.update (V1 m d) rV1 (tilesOut (rows m d) (perm m d))
def V3 (d : Dev nD) : Valuation τ sig (Elt F) := (opPerm (F := F)).result (V2 m d)
/-- After the TensorCore's. -/
def V4 (d : Dev nD) : Valuation τ sig (Elt F) := Function.update (V3 m d) rV3 (blocksOut (rows m d) (permRow m d) (start3 m d))
def V5 (d : Dev nD) : Valuation τ sig (Elt F) := (opC0 (F := F)).result ((opC (F := F)).result (V4 m d))
def V6 (d : Dev nD) : Valuation τ sig (Elt F) := (opBack (F := F)).result ((opJoin (F := F)).result (V5 m d))

theorem V1_v0 (d : Dev nD) : V1 m d rV0 = rows m d := StableHlo.reshape_result main_arg0 main_v0 _ _ _ _ _
theorem V1_ne (d : Dev nD) {b : DevRef τ sig} (h : b ∉ ({rV0} : Finset (DevRef τ sig))) : V1 m d b = m (d, b) := (opRows (F := F)).result_of_not_mem _ h
theorem V2_ne (d : Dev nD) {b : DevRef τ sig} (h : b ≠ rV1) : V2 m d b = V1 m d b := Function.update_of_ne h _ _
theorem V3_ne (d : Dev nD) {b : DevRef τ sig} (h : b ∉ ({rV2} : Finset (DevRef τ sig))) : V3 m d b = V2 m d b := (opPerm (F := F)).result_of_not_mem _ h
theorem V3_v2 (d : Dev nD) : V3 m d rV2 = permRow m d := by
  refine (StableHlo.reshape_result main_arg1 main_v2 _ _ _ _ _).trans ?_
  rw [V2_ne m d (show rArg1 ≠ rV1 by decide), V1_ne m d (show rArg1 ∉ ({rV0} : Finset (DevRef τ sig)) by decide)]
  rfl
theorem V3_v0 (d : Dev nD) : V3 m d rV0 = rows m d := by
  rw [V3_ne m d (show rV0 ∉ ({rV2} : Finset (DevRef τ sig)) by decide), V2_ne m d (show rV0 ≠ rV1 by decide), V1_v0]
theorem V3_v3 (d : Dev nD) : V3 m d rV3 = start3 m d := by
  rw [V3_ne m d (show rV3 ∉ ({rV2} : Finset (DevRef τ sig)) by decide), V2_ne m d (show rV3 ≠ rV1 by decide),
    V1_ne m d (show rV3 ∉ ({rV0} : Finset (DevRef τ sig)) by decide)]
  rfl
theorem V4_ne (d : Dev nD) {b : DevRef τ sig} (h : b ≠ rV3) : V4 m d b = V3 m d b := Function.update_of_ne h _ _
theorem V5_ne (d : Dev nD) {b : DevRef τ sig} (h : b ∉ ({rC} : Finset (DevRef τ sig))) (h' : b ∉ ({rC0} : Finset (DevRef τ sig))) : V5 m d b = V4 m d b :=
  ((opC0 (F := F)).result_of_not_mem _ h').trans ((opC (F := F)).result_of_not_mem _ h)
theorem V6_ne (d : Dev nD) {b : DevRef τ sig} (h : b ∉ ({rV4} : Finset (DevRef τ sig))) (h' : b ∉ ({rV5} : Finset (DevRef τ sig))) : V6 m d b = V5 m d b :=
  ((opBack (F := F)).result_of_not_mem _ h').trans ((opJoin (F := F)).result_of_not_mem _ h)
theorem V6_arg0 (d : Dev nD) : V6 m d rArg0 = m ((SparseCore.T d).loc main_arg0) := by
  rw [V6_ne m d (by decide) (by decide), V5_ne m d (by decide) (by decide), V4_ne m d (by decide), V3_ne m d (by decide), V2_ne m d (by decide), V1_ne m d (by decide)]
theorem V6_arg1 (d : Dev nD) : V6 m d rArg1 = m (pLoc d) := by
  rw [V6_ne m d (by decide) (by decide), V5_ne m d (by decide) (by decide), V4_ne m d (by decide), V3_ne m d (by decide), V2_ne m d (by decide), V1_ne m d (by decide)]
theorem V5_c (d : Dev nD) : V5 m d rC = (constantI S_ 32 0#32 : S_.Idx → BitVec 32) :=
  ((opC0 (F := F)).result_of_not_mem _ (show rC ∉ ({rC0} : Finset (DevRef τ sig)) by decide)).trans (StableHlo.nullary_result main_c _ _ _)
theorem V5_c0 (d : Dev nD) : V5 m d rC0 = (constantI S_ 32 0#32 : S_.Idx → BitVec 32) := StableHlo.nullary_result main_c_0 _ _ _
theorem V6_v5 (d : Dev nD) : V6 m d rV5 = result m d := by
  refine (StableHlo.reshape_result main_v4 main_v5 _ _ _ _ _).trans ?_
  have e : (opJoin (F := F)).result (V5 m d) rV4 = Host.dynamicUpdateSlice (blocksOut (rows m d) (permRow m d) (start3 m d)) (tilesOut (rows m d) (perm m d))
      (fun _ => (0#32 : BitVec 32).toInt) updateFits_S16384x2048_S4608x2048 := by
    refine (StableHlo.binaryIndexed_result main_v3 main_v1 _ _ main_v4 _ _ _ _ _ _ _).trans ?_
    have e3 : V5 m d rV3 = blocksOut (rows m d) (permRow m d) (start3 m d) :=
      (V5_ne m d (by decide) (by decide)).trans (Function.update_self _ _ _)
    have e1 : V5 m d rV1 = tilesOut (rows m d) (perm m d) :=
      (V5_ne m d (by decide) (by decide)).trans ((V4_ne m d (by decide)).trans ((V3_ne m d (by decide)).trans (Function.update_self _ _ _)))
    rw [e3, e1]
    congr 1
    funext k
    match k with
    | 0 => exact congrArg (fun g : S_.Idx → BitVec 32 => (g (Shape.Idx.first h_S_)).toInt) (V5_c m d)
    | 1 => exact congrArg (fun g : S_.Idx → BitVec 32 => (g (Shape.Idx.first h_S_)).toInt) (V5_c0 m d)
  rw [e]
  rfl

end Run

end Cert.Proof.Permute
-- ==== Proof.Run.lean ====
/-
  The program's run: the main program on the TensorCore between its two calls, and the launch of all the threads.
-/
module

public import proofs.«01_k».proof.Proof.Main

@[expose] public section

noncomputable section

namespace Cert.Proof.Permute

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

open Idealize.ShloMosaic.StableHlo (held held_split wp_hlo_within)

section Run

variable (m : (ℓ : Loc nD τ sig) → Buf (Elt F) ℓ) (ρ : Dev nD → PrngReg)

/-- The handshakes' payloads, over this launch's contents. -/
abbrev PM : (K (F := F)).Pay (nD := nD) (Val := Elt F) (Name := ℕ) (U := UU) := P (rows m) (perm m) (start1 m)

/-- What the pipelined region takes from the launch. -/
def G (d : Dev nD) : sProp 𝕄 := iprop(Pipeline.cellsGhost cfgs EP 0 d ∗ Pipeline.toksInit cfgs EP 0 d)

/-- What the main program leaves the claims: the arguments as they were, the result. -/
def FIN (d : Dev nD) : sProp 𝕄 :=
  iprop((((SparseCore.T d).loc main_arg0 : Loc nD τ sig) ↦{fullShare} m ((SparseCore.T d).loc main_arg0)) ∗ (pLoc d ↦{fullShare} m (pLoc d))
    ∗ ((SparseCore.T d).loc main_v5 : Loc nD τ sig) ↦{fullShare} result m d)

/-- After the first call the TensorCore owes nothing, and what it has waited on is below the call's last level. -/
theorem tcSt_owes (d : Dev nD) :
    ((K (F := F)).tcSt EH d 1 : sProp 𝕄) ⊢ iprop((∃ W : Finset (SemLoc sig × HIx 1), ⌜(↑W : Set _) ⊆ waited (F := F) d⌝ ∗ owes (SparseCore.T d) (0 : CellTallies nD τ sig (HIx 1)) W)
      ∗ ((∃ W : Finset (SemLoc sig × HIx 1), ⌜(↑W : Set _) ⊆ waited (F := F) d⌝ ∗ owes (SparseCore.T d) (0 : CellTallies nD τ sig (HIx 1)) W) -∗ (K (F := F)).tcSt EH d 1)) := by
  unfold SparseCore.Cfg.tcSt
  rw [(K (F := F)).Otc_end d le_rfl]
  iintro ⟨⟨%W, %hW, HO⟩, Hr⟩
  isplitl [HO]
  · iexists W
    isplitr; swap; · iexact HO
    ipureintro
    exact fun w hw => hW w hw
  iintro ⟨%W', %hW', HO⟩
  isplitl [HO]
  · iexists W'
    isplitr; swap; · iexact HO
    ipureintro
    exact fun w hw => hW' hw
  iexact Hr

theorem unscoped_held (d : Dev nD) : (unscopedBufs d (fun b => m ((SparseCore.T d).loc b)) : sProp 𝕄) = held (SparseCore.T d) arrays10 (V0 m d) := by
  unfold unscopedBufs held arrays10
  rw [show (Finset.univ.filter fun b : Ref sig .tc => ¬ b.isScoped) = {main_arg0, main_arg1, main_v0, main_v1, main_v2, main_v3, main_c, main_c_0, main_v4, main_v5} by decide]
  repeat rw [SparseCore.bigSep_insert' (by decide)]
  rw [bigSep_singleton, bigSep_singleton]
  rfl

/-- The arrays of the SparseCores' call out of the ten, and back. -/
theorem take_call (d : Dev nD) :
    (held (SparseCore.T d) arrays10 ((opRows (F := F)).result (V0 m d)) : sProp 𝕄)
      = iprop(((xLoc d ↦{fullShare} rows m d) ∗ (pLoc d ↦{fullShare} perm m d) ∗ oLoc d ↦{fullShare} start1 m d)
        ∗ held (SparseCore.T d) (arrays10 \ {rV0, rArg1, rV1}) (V1 m d)) := by
  show held (SparseCore.T d) arrays10 (V1 m d) = _
  rw [held_part d (S := {rV0, rArg1, rV1}) (by decide), held_three d main_v0 main_arg1 main_v1 (by decide) (by decide),
    V1_v0, V1_ne m d (show rArg1 ∉ ({rV0} : Finset (DevRef τ sig)) by decide), V1_ne m d (show rV1 ∉ ({rV0} : Finset (DevRef τ sig)) by decide)]
  rfl
theorem give_call (d : Dev nD) :
    (held (SparseCore.T d) arrays10 (V2 m d) : sProp 𝕄)
      = iprop(((xLoc d ↦{fullShare} rows m d) ∗ (pLoc d ↦{fullShare} perm m d) ∗ oLoc d ↦{fullShare} tilesOut (rows m d) (perm m d))
        ∗ held (SparseCore.T d) (arrays10 \ {rV0, rArg1, rV1}) (V1 m d)) := by
  rw [held_part d (S := {rV0, rArg1, rV1}) (by decide), held_three d main_v0 main_arg1 main_v1 (by decide) (by decide),
    V2_ne m d (show rV0 ≠ rV1 by decide), V2_ne m d (show rArg1 ≠ rV1 by decide), V1_v0,
    V1_ne m d (show rArg1 ∉ ({rV0} : Finset (DevRef τ sig)) by decide), show V2 m d rV1 = tilesOut (rows m d) (perm m d) from Function.update_self _ _ _,
    show (held (SparseCore.T d) (arrays10 \ {rV0, rArg1, rV1}) (V2 m d) : sProp 𝕄) = _ from held_others d (V1 m d) (by decide) _]
  rfl

/-- The arrays of the TensorCore's call out of the ten, and back. -/
theorem take_region (d : Dev nD) :
    (held (SparseCore.T d) arrays10 ((opPerm (F := F)).result (V2 m d)) : sProp 𝕄)
      = iprop(((xLoc d ↦{fullShare} rows m d) ∗ (((SparseCore.T d).loc main_v2 : Loc nD τ sig) ↦{fullShare} permRow m d)
          ∗ ((SparseCore.T d).loc main_v3 : Loc nD τ sig) ↦{fullShare} start3 m d)
        ∗ held (SparseCore.T d) (arrays10 \ {rV0, rV2, rV3}) (V3 m d)) := by
  show held (SparseCore.T d) arrays10 (V3 m d) = _
  rw [held_part d (S := {rV0, rV2, rV3}) (by decide), held_three d main_v0 main_v2 main_v3 (by decide) (by decide), V3_v0, V3_v2, V3_v3]
theorem give_region (d : Dev nD) :
    (held (SparseCore.T d) arrays10 (V4 m d) : sProp 𝕄)
      = iprop(((xLoc d ↦{fullShare} rows m d) ∗ (((SparseCore.T d).loc main_v2 : Loc nD τ sig) ↦{fullShare} permRow m d)
          ∗ ((SparseCore.T d).loc main_v3 : Loc nD τ sig) ↦{fullShare} blocksOut (rows m d) (permRow m d) (start3 m d))
        ∗ held (SparseCore.T d) (arrays10 \ {rV0, rV2, rV3}) (V3 m d)) := by
  rw [held_part d (S := {rV0, rV2, rV3}) (by decide), held_three d main_v0 main_v2 main_v3 (by decide) (by decide),
    V4_ne m d (show rV0 ≠ rV3 by decide), V4_ne m d (show rV2 ≠ rV3 by decide), V3_v0, V3_v2,
    show V4 m d rV3 = blocksOut (rows m d) (permRow m d) (start3 m d) from Function.update_self _ _ _,
    show (held (SparseCore.T d) (arrays10 \ {rV0, rV2, rV3}) (V4 m d) : sProp 𝕄) = _ from held_others d (V3 m d) (by decide) _]

/-- The ten at the end. -/
theorem held_end (d : Dev nD) :
    (held (SparseCore.T d) arrays10 ((opBack (F := F)).result ((opJoin (F := F)).result ((opC0 (F := F)).result ((opC (F := F)).result (V4 m d))))) : sProp 𝕄)
      = iprop(FIN m d ∗ held (SparseCore.T d) (arrays10 \ {rArg0, rArg1, rV5}) (V6 m d)) := by
  show held (SparseCore.T d) arrays10 (V6 m d) = _
  rw [held_part d (S := {rArg0, rArg1, rV5}) (by decide), held_three d main_arg0 main_arg1 main_v5 (by decide) (by decide), V6_arg0, V6_arg1, V6_v5]
  rfl

variable [∀ e, Nonempty (Elt F e)]

/-- The main program, from the launch's state to the result. -/
theorem main_spec (κ : GSem nD τ sig → ℕ) (d : Dev nD) :
    iprop((K (F := F)).ctx EH (PM m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [unscoped_held]
  simp only [main, wp_bind, wp_pure]
  iintro ⟨#Hctx, Hst, ⟨Hb, Hheld, Hts, -⟩, Hg, Ht⟩
  iapply (wp_hlo_within 𝒱 (SparseCore.T d) none Set.univ (op := opRows) (S := arrays10) opRows_sub (V := V0 m d)) $$ [Hb Hheld]
  · isplitl [Hb] <;> iassumption
  iintro ⟨Hb, Hheld⟩
  rw [wp_ret]; imodintro
  -- the SparseCores' call
  ihave Hh := (Entails.of_eq (take_call m d)) $$ Hheld
  icases Hh with ⟨Hc, Hrest⟩
  ihave Hc' := (call_iff (rows m) (perm m) (start1 m d) d).1 $$ Hc
  icases Hc' with ⟨Hcr, Hcs⟩
  iapply ((K (F := F)).wp_run (D (F := F)) 𝒱 (EH := EH) (P := PM m) κ d 0) $$ [Hst Hcs Hcr Hrest Hb Hts Hg Ht]
  isplitr; · iexact Hctx
  isplitl [Hst]; · iexact Hst
  isplitl [Hcs]; · iexact Hcs
  iintro ⟨Hst, Hdn⟩
  ihave Hc := (call_iff (rows m) (perm m) (tilesOut (rows m d) (perm m d)) d).2 $$ [Hcr Hdn]
  · isplitl [Hcr]; · iexact Hcr
    iexact Hdn
  ihave Hheld := (Entails.of_eq (give_call m d).symm) $$ [Hc Hrest]
  · isplitl [Hc] <;> iassumption
  iapply (wp_hlo_within 𝒱 (SparseCore.T d) none Set.univ (op := opPerm) (S := arrays10) opPerm_sub (V := V2 m d)) $$ [Hb Hheld]
  · isplitl [Hb] <;> iassumption
  iintro ⟨Hb, Hheld⟩
  rw [wp_ret]; imodintro
  -- the TensorCore's
  ihave Hh := (Entails.of_eq (take_region m d)) $$ Hheld
  icases Hh with ⟨⟨Hx, Hp, Hf⟩, Hrest⟩
  ihave Hs := (show ((K (F := F)).tcSt EH d ((0 : Fin 1).val + 1) : sProp 𝕄) ⊢ _ from tcSt_owes d) $$ Hst
  icases Hs with ⟨HO, Hst⟩
  iapply (region_call (rows m) (permRow m) (start3 m) d)
  isplitl [Hst Hrest Hts]; swap
  · isplitl [Hb]; · iexact Hb
    isplitl [Hx Hp Hf HO]
    · unfold regionHeld
      isplitl [Hx]; · iexact Hx
      isplitl [Hp]; · iexact Hp
      isplitl [Hf]; · iexact Hf
      iexact HO
    isplitr; · iapply (SparseCore.Cfg.ctx_levAts κ); iexact Hctx
    isplitl [Hg]; · iexact Hg
    iexact Ht
  unfold regionHeld
  iintro ⟨Hb, Hx, Hp, Hf, HO⟩
  ihave Hst := Hst $$ HO
  ihave Hheld := (Entails.of_eq (give_region m d).symm) $$ [Hx Hp Hf Hrest]
  · isplitr [Hrest]; swap; · iexact Hrest
    isplitl [Hx]; · iexact Hx
    isplitl [Hp]; · iexact Hp
    iexact Hf
  -- the result
  iapply (wp_hlo_within 𝒱 (SparseCore.T d) none Set.univ (op := opC) (S := arrays10) opC_sub (V := V4 m d)) $$ [Hb Hheld]
  · isplitl [Hb] <;> iassumption
  iintro ⟨Hb, Hheld⟩
  rw [wp_ret]; imodintro
  iapply (wp_hlo_within 𝒱 (SparseCore.T d) none Set.univ (op := opC0) (S := arrays10) opC0_sub (V := (opC (F := F)).result (V4 m d))) $$ [Hb Hheld]
  · isplitl [Hb] <;> iassumption
  iintro ⟨Hb, Hheld⟩
  rw [wp_ret]; imodintro
  iapply (wp_hlo_within 𝒱 (SparseCore.T d) none Set.univ (op := opJoin) (S := arrays10) opJoin_sub (V := (opC0 (F := F)).result ((opC (F := F)).result (V4 m d)))) $$ [Hb Hheld]
  · isplitl [Hb] <;> iassumption
  iintro ⟨Hb, Hheld⟩
  rw [wp_ret]; imodintro
  iapply (wp_hlo_within 𝒱 (SparseCore.T d) none Set.univ (op := opBack) (S := arrays10) opBack_sub (V := (opJoin (F := F)).result ((opC0 (F := F)).result ((opC (F := F)).result (V4 m d))))) $$ [Hb Hheld]
  · isplitl [Hb] <;> iassumption
  iintro ⟨Hb, Hheld⟩
  ihave Hh := (Entails.of_eq (held_end m d)) $$ Hheld
  icases Hh with ⟨HF, -⟩
  rw [wp_ret]; imodintro; imodintro
  isplitl [Hst]; · iexact Hst
  isplitl [HF]; · iexact HF
  isplitl [Hb] <;> iassumption

/-! ## The launch -/

/-- The launch element: the handshakes' rounds, the pipelined region's, no copy's counter spent. -/
def u₀ : UU := (initOf (K (F := F)).hsCells (K (F := F)).hsToks,
  (initOf (Pipeline.cells cfgs cellOf_inj) (Pipeline.launchToks cfgs cellOf_inj), 1))

omit [FloatOps F] [∀ e, Nonempty (Elt F e)] in
theorem ownU_split (a : UH) (b : UP × Counters) : (ownU (a, b) : sProp 𝕄) ⊢ iprop(BI.own (EH a) ∗ BI.own (EP b.1)) := by
  have h1 : (ownU (a, b) : sProp 𝕄) ⊢ iprop(BI.own (EH a) ∗ BI.own (((Emb.inr : Emb (UP × Counters) UU).trans
      (uEmb (nD := nD) (τ := τ) (sig := sig) (Ix := HIx 1) (Val := Elt F) (Name := ℕ) (U := UU) (Lvl := ℕ)).toEmb) b)) :=
    own_pair_emb (uEmb (nD := nD) (τ := τ) (sig := sig) (Ix := HIx 1) (Val := Elt F) (Name := ℕ) (U := UU) (Lvl := ℕ)).toEmb a b
  have h2 := own_pair_emb ((Emb.inr : Emb (UP × Counters) UU).trans
      (uEmb (nD := nD) (τ := τ) (sig := sig) (Ix := HIx 1) (Val := Elt F) (Name := ℕ) (U := UU) (Lvl := ℕ)).toEmb) b.1 b.2
  iintro H
  ihave H := h1 $$ H
  icases H with ⟨Ha, Hb⟩
  isplitl [Ha]; · iexact Ha
  ihave H := h2 $$ Hb
  icases H with ⟨Hb, -⟩
  iexact Hb

theorem payloads_x (thr : Thread nD τ) : (bigSep Finset.univ fun q : Fin 1 => (PM m).x q thr) = iprop(emp) :=
  bigSep_univ_of_subsingleton (0 : Fin 1)

theorem launch_ghost : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (PM m).x q thr) := by
  unfold u₀
  iintro Hu
  ihave H := (ownU_split _ _) $$ Hu
  icases H with ⟨HH, HP⟩
  imod (Pipeline.fund_ghost cfgs EP cellOf_inj) $$ HP with ⟨Hg, Ht⟩
  imodintro
  isplitl [HH]; · iexact HH
  isplitl [Hg Ht]
  · unfold G
    rw [bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  rw [show (fun thr : Thread nD τ => bigSep Finset.univ fun q : Fin 1 => (PM m).x q thr) = fun _ => iprop(emp) from funext fun thr => payloads_x m thr,
    show (bigSep Finset.univ fun _ : Thread nD τ => iprop(emp)) = (iprop(emp) : sProp 𝕄) from bigSep_emp_const _]
  iempintro

/-- What the claims read of a device's final memory: the arguments as they were, the result. -/
def finalAt (d : Dev nD) (s' : Phys nD τ sig (Elt F)) : Prop :=
  s'.mem.mem ((SparseCore.T d).loc main_arg0) = m ((SparseCore.T d).loc main_arg0) ∧ s'.mem.mem (pLoc d) = m (pLoc d)
    ∧ s'.mem.mem ((SparseCore.T d).loc main_v5) = result m d

theorem final_read (d : Dev nD) (s' : Phys nD τ sig (Elt F)) : iprop(FIN m d ∗ SI s') ⊢ (⌜finalAt m d s'⌝ : sProp 𝕄) := by
  unfold FIN
  iintro ⟨⟨Hx, Hp, Ho⟩, HSI⟩
  ihave H := (persistent_entails_right (SI_pointsTo_agree (st := s') (ℓ := (SparseCore.T d).loc main_arg0) (I := Finset.univ) (q := fullShare)
    (f := m ((SparseCore.T d).loc main_arg0)))) $$ [HSI Hx]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (SI_pointsTo_agree (st := s') (ℓ := (SparseCore.T d).loc main_v5) (I := Finset.univ) (q := fullShare) (f := result m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-- The program run from any memory whose permutation's words are below 2048, over any float values: it ends with the arguments as they
    were, the result in place, every semaphore at zero. -/
theorem run_main (hp : ∀ d c, (perm m d c).toNat < 2048) :
    θ_run (Cert.KernelIdeal.defs (F := F)) (Cert.KernelIdeal.threads (F := F)) ⟨m, fun _ => 0, ρ⟩
      fun r => (∀ d : Dev nD, r.2.mem ((SparseCore.T d).loc main_arg0) = m ((SparseCore.T d).loc main_arg0) ∧ r.2.mem (pLoc d) = m (pLoc d)
        ∧ r.2.mem ((SparseCore.T d).loc main_v5) = result m d) ∧ r.2.sem = fun _ => 0 :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (rows m) (perm m) (start1 m) facts hp)
    (fun q _ => match q with | 0 => SparseCore.Cfg.VecSplit.of_plain (vecSplit (rows m) (perm m) (start1 m)))
    m ρ main G (FIN m) (u₀ (F := F)) (sep_elim_left.trans (launch_ghost m)) (main_spec m ρ) (finalAt m) (final_read m) _ (fun _ h hz => ⟨h, hz⟩)

end Run

end Cert.Proof.Permute
-- ==== Proof.Frames.lean ====
/-
  The precondition read back as a bound on the permutation's words, and the three frames.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import proofs.«01_k».proof.Proof.Gen.Pre_in_range
public import Idealize.ShloMosaic.Lib.ReduceAll
public import Idealize.ShloMosaic.Lib.WordCmp

@[expose] public section

noncomputable section

namespace Cert.Proof.Permute

open Idealize.ShloMosaic Idealize.SL.Sem

/-- A word that is at least 0 and below 2048 as a signed word is below 2048 as a natural number. -/
theorem word_lt {v : BitVec 32} (e : IntOp.andi (IntOp.cmpi .sge v 0#32) (IntOp.cmpi .slt v 2048#32) = 1#1) : v.toNat < 2048 := by
  obtain ⟨h0, h1⟩ := IntOp.andi_eq_one.1 e
  have h0' := IntOp.cmpi_sge.1 h0
  have h1' := IntOp.cmpi_slt.1 h1
  simp only [BitVec.toInt_eq_toNat_cond, BitVec.toNat_ofNat, Nat.reducePow, Nat.reduceMod] at h0' h1'
  omega

/-- The precondition's one bit set says that every word of the permutation is below 2048. -/
theorem bound_of_fn {F : FTy → Type} [FloatOps F] (x : FVec F Cert.Pre_in_range.S4x4096x2048 .f32) (p : IVec Cert.Pre_in_range.S2048 32)
    (h : Cert.Pre_in_range.fn (F := F) x p = fun _ => 1#1) (c : Cert.Pre_in_range.S2048.Idx) : (p c).toNat < 2048 := by
  haveI : Subsingleton Cert.Pre_in_range.S_.Idx := ⟨fun a b => funext fun k => k.elim0⟩
  have e := congrFun h (fun k => k.elim0)
  simp only [Cert.Pre_in_range.fn] at e
  exact word_lt (Host.reduce_andi_all _ _ _ _ _ e c)

/-- The two printed programs have the same bodies: one text, read at either kind of value. -/
theorem bodies_eq : Cert.Kernel.defs₀ (F := Bits) = Cert.KernelIdeal.defs₀ (F := Bits) := by
  funext p l a
  match p, l, a with
  | .tc, 0, _ => rfl
  | .tc, 1, (_, _) => rfl
  | .scScalar _, 0, _ => rfl
  | .scScalar _, 1, _ => rfl
  | .scVector _ _, 0, _ => rfl
  | .scVector _ _, 1, _ => rfl

/-- So they have the same definitions, the two calls' own threads included. -/
theorem defs_eq : Cert.Kernel.defs (F := Bits) = Cert.KernelIdeal.defs (F := Bits) :=
  congrArg (fun f => Cert.KernelIdeal.sc.defs (Pipeline.defs Cert.KernelIdeal.pcfgs f)) bodies_eq

/-- `Cert.quiescent_Kernel`: the kernel read bit for bit runs to the end, its arguments as they were and every semaphore at zero. -/
theorem frame_kernel : Cert.quiescent_Kernel := by
  unfold Cert.quiescent_Kernel
  rw [defs_eq]
  intro m ρ hpre
  exact (θ_run Cert.KernelIdeal.defs _ _).mono (fun _ h => ⟨fun c => ⟨(h.1 c).1, (h.1 c).2.1⟩, h.2⟩)
    (run_main (F := Bits) m ρ fun d c => bound_of_fn _ _ (hpre d) c)

/-- `Cert.quiescent_KernelIdeal`: the same of the kernel read over the extended reals. -/
theorem frame_kernelIdeal : Cert.quiescent_KernelIdeal := fun m ρ hpre =>
  (θ_run Cert.KernelIdeal.defs _ _).mono (fun _ h => ⟨fun c => ⟨(h.1 c).1, (h.1 c).2.1⟩, h.2⟩)
    (run_main (F := Ideal) m ρ fun d c => bound_of_fn _ _ (hpre d) c)

/-- `Cert.quiescent_ReferenceIdeal`: the reference runs to the end and leaves its arguments as they were; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same under the precondition the comparison with the kernel has. -/
theorem frame_reference_in_range : Cert.quiescent_ReferenceIdeal_pre_in_range := fun m ρ _ =>
  frame_reference m ρ trivial

end Cert.Proof.Permute

end
-- ==== Proof.Value.lean ====
/-
  The results over the extended reals: the kernel's array and the reference's array are both the argument with its
  columns taken at the permutation.
-/
module

public import proofs.«01_k».proof.Proof.Frames
public import Idealize.ShloMosaic.Lib.MatmulPlain
public import Idealize.ShloMosaic.Lib.ValueLayout
public import Idealize.ShloMosaic.Lib.ValueIdx
public import Idealize.ShloMosaic.Lib.Pointwise

@[expose] public section

noncomputable section

namespace Cert.Proof.Permute

open Cert.KernelIdeal Cert.KernelIdeal.Gen
open Idealize.ShloMosaic hiding ix0 ix1 ix2 ix3 ix4 ix5 eq_ix1 eq_ix2 eq_ix3
open Idealize.ShloMosaic.ValueIdx Idealize.SL.Sem
open scoped BigOperators

/-- An array with its columns taken at a permutation's words. -/
def taken {α : Type} (x : S4x4096x2048.Idx → α) (p : S2048.Idx → BitVec 32) (i : S4x4096x2048.Idx) : α :=
  x (ix3 (n0 := 4) (n1 := 4096) (n2 := 2048) (i 0) (i 1) (pick p (i 2)))

/-! ## The kernel's array -/

/-- The matrix the kernel multiplies by: 1 where the row is the column's word, 0 elsewhere. -/
theorem matrix_apply (p : S1x2048.Idx → BitVec 32) (k c : Fin 2048) :
    k1_pay1 (F := Ideal) p (ix2 k c) = if BitVec.ofNat 32 k.val = p (ix2 (0 : Fin 1) c) then (1 : EReal) else 0 := by
  have e : k1_pay1 (F := Ideal) p (ix2 k c) = FloatOps.sitofp (F := Ideal) .f32
      ((IntOp.cmpi .eq (iota .tc S2048x2048 32 [0] iota_S2048x2048_d0_w32 (ix2 k c))
        (broadcastTo S2048x2048 (shapeCast S1x2048 (shapeCast S2048 p shapeCasts_S1x2048_S2048) shapeCasts_S2048_S1x2048)
          broadcasts_S1x2048_S2048x2048 (ix2 k c))).setWidth 32) := by
    unfold k1_pay1
    rw [shapeCast_self]
    rfl
  rw [e, iota_single_apply, shapeCast_shapeCast, broadcastTo_1b_ab_apply]
  show (((((IntOp.cmpi .eq (BitVec.ofNat 32 k.val) (p (ix2 (0 : Fin 1) c))).setWidth 32).toInt : ℤ) : ℝ) : EReal) = _
  by_cases h : BitVec.ofNat 32 k.val = p (ix2 (0 : Fin 1) c)
  · rw [if_pos h, ← h]
    simp [IntOp.cmpi]
  · rw [if_neg h]
    have h' : (BitVec.ofNat 32 k.val == p (ix2 (0 : Fin 1) c)) = false := beq_false_of_ne h
    simp only [IntOp.cmpi]
    rw [h']
    simp

/-- The product of a block with that matrix: at column `c`, the block's entry at the column's word. -/
theorem product_apply (X : S512x2048.Idx → EReal) (p : S1x2048.Idx → BitVec 32) (r : Fin 512) (c : Fin 2048)
    (hc : (p (ix2 (0 : Fin 1) c)).toNat < 2048) :
    k1_pay2 (F := Ideal) X (k1_pay1 (F := Ideal) p) (ix2 r c) = X (ix2 r ⟨(p (ix2 (0 : Fin 1) c)).toNat, hc⟩) := by
  have e : k1_pay2 (F := Ideal) X (k1_pay1 (F := Ideal) p) (ix2 r c)
      = FloatOps.matmul (DotDims.plain 512 2048 2048) none (truncf .bf16 (X : FVec Ideal S512x2048 .f32) bitsLt_bf16_f32)
          (k1_pay1 (F := Ideal) p) (constant (F := Ideal) S512x2048 .f32 0x00000000#32) (ix2 r c) := by
    unfold k1_pay2
    rw [shapeCast_self]
    rfl
  rw [e, Ideal.matmul_plain_apply, constant_apply]
  rw [show Ideal.ofBits .f32 0x00000000#32 = 0 from Ideal.ofBits_zero .f32, zero_add]
  rw [Finset.sum_eq_single (⟨(p (ix2 (0 : Fin 1) c)).toNat, hc⟩ : Fin 2048)]
  · rw [matrix_apply, if_pos (by simp), mul_one]
    rfl
  · intro k _ hk
    rw [matrix_apply, if_neg, mul_zero]
    intro h
    apply hk
    apply Fin.ext
    show k.val = (p (ix2 (0 : Fin 1) c)).toNat
    rw [← h, BitVec.toNat_ofNat, Nat.mod_eq_of_lt (by omega)]
  · intro h
    exact absurd (Finset.mem_univ _) h

section Kernel

variable (m : (ℓ : Loc nD τ sig) → Buf (Elt Ideal) ℓ)

/-- A row of the flat array is a row of the argument. -/
theorem rows_apply (d : Dev nD) (b : Fin 4) (r : Fin 4096) (k : Fin 2048) (n : Fin 16384) (hn : n.val = 4096 * b.val + r.val) :
    rows m d (ix2 n k) = m ((SparseCore.T d).loc main_arg0) (ix3 b r k) := by
  refine shapeCast_apply (s := S4x4096x2048) (t := S16384x2048) _ _ (ix2 n k) (ix3 b r k) ?_
  rw [Shape.rowMajor_val_three, Shape.rowMajor_val_two]
  show (b.val * 4096 + r.val) * 2048 + k.val = n.val * 2048 + k.val
  rw [hn]; omega

/-- The permutation as one row. -/
theorem permRow_apply (d : Dev nD) (c : Fin 2048) : permRow m d (ix2 (0 : Fin 1) c) = perm m d (ix1 c) :=
  shapeCast_a_1a_apply _ _ _ _

/-- The kernel's result is the argument with its columns taken at the permutation. -/
theorem result_eq (d : Dev nD) (hp : ∀ c, (perm m d c).toNat < 2048) :
    result m d = taken (m ((SparseCore.T d).loc main_arg0)) (perm m d) := by
  funext i
  obtain ⟨b, r, c, rfl⟩ : ∃ (b : Fin 4) (r : Fin 4096) (c : Fin 2048), i = ix3 b r c := ⟨i 0, i 1, i 2, eq_ix3 i⟩
  have hn : 4096 * b.val + r.val < 16384 := by have := b.isLt; have := r.isLt; omega
  have hpick : (pick (perm m d) c).val = (perm m d (ix1 c)).toNat := Nat.mod_eq_of_lt (hp _)
  have e : result m d (ix3 b r c) = Host.dynamicUpdateSlice (blocksOut (rows m d) (permRow m d) (start3 m d)) (tilesOut (rows m d) (perm m d))
      (fun _ => (0#32 : BitVec 32).toInt) updateFits_S16384x2048_S4608x2048 (ix2 (⟨4096 * b.val + r.val, hn⟩ : Fin 16384) c) := by
    unfold result
    refine shapeCast_apply _ _ _ _ ?_
    rw [Shape.rowMajor_val_three, Shape.rowMajor_val_two]
    show (4096 * b.val + r.val) * 2048 + c.val = (b.val * 4096 + r.val) * 2048 + c.val
    omega
  have hs : ∀ a, Host.clampedStart S16384x2048 S4608x2048 updateFits_S16384x2048_S4608x2048.1 (fun _ => (0#32 : BitVec 32).toInt) a = 0 := fun a =>
    Host.clampedStart_of_le _ _ a 0 rfl (by have := updateFits_S16384x2048_S4608x2048.2 a; omega)
  rw [e, Host.dynamicUpdateSlice_apply]
  show _ = m ((SparseCore.T d).loc main_arg0) (ix3 b r (pick (perm m d) c))
  by_cases hlt : 4096 * b.val + r.val < 4608
  · rw [dif_pos]
    · refine Eq.trans ?_ (rows_apply m d b r (pick (perm m d) c) ⟨4096 * b.val + r.val, hn⟩ rfl)
      show rows m d (ix2 _ (pick (perm m d) _)) = _
      congr 1
      refine congrArg₂ ix2 (Fin.ext ?_) (congrArg (pick (perm m d)) (Fin.ext ?_))
      · show (4096 * b.val + r.val - Host.clampedStart S16384x2048 S4608x2048 _ (fun _ => (0#32 : BitVec 32).toInt) 0) % 16384 = 4096 * b.val + r.val
        rw [hs, Nat.sub_zero, Nat.mod_eq_of_lt hn]
      · show c.val - Host.clampedStart S16384x2048 S4608x2048 _ (fun _ => (0#32 : BitVec 32).toInt) 1 = c.val
        rw [hs, Nat.sub_zero]
    · intro a
      rw [hs]
      match a with
      | ⟨0, _⟩ => exact ⟨Nat.zero_le _, by show 4096 * b.val + r.val < 0 + 4608; omega⟩
      | ⟨1, _⟩ => exact ⟨Nat.zero_le _, by show c.val < 0 + 2048; have := c.isLt; omega⟩
  · rw [dif_neg]
    · have hc : (permRow m d (ix2 (0 : Fin 1) c)).toNat < 2048 := by rw [permRow_apply]; exact hp _
      unfold blocksOut
      rw [if_pos (by show 4608 ≤ 4096 * b.val + r.val; omega)]
      refine (product_apply _ _ _ c hc).trans ?_
      refine Eq.trans ?_ (rows_apply m d b r (pick (perm m d) c) ⟨4096 * b.val + r.val, hn⟩ rfl)
      show rows m d (ix2 _ _) = _
      congr 1
      refine congrArg₂ ix2 (Fin.ext ?_) (Fin.ext ?_)
      · show (512 * ((4096 * b.val + r.val) / 512) + (4096 * b.val + r.val) % 512) % 16384 = 4096 * b.val + r.val
        omega
      · show (permRow m d (ix2 (0 : Fin 1) c)).toNat = _
        rw [permRow_apply, hpick]
    · intro h
      have h0 := (h 0).2
      rw [hs] at h0
      exact hlt (by simpa using h0)

end Kernel

end Cert.Proof.Permute

end
-- ==== Proof.Reference.lean ====
/-
  The reference's result over the extended reals is the argument with its columns taken at the permutation, and with it the
  kernel and the reference end with equal results.
-/
module

public import proofs.«01_k».proof.Proof.Value

@[expose] public section

noncomputable section

namespace Cert.Proof.Permute

open Cert.ReferenceIdeal Cert.ReferenceIdeal.Gen
open Idealize.ShloMosaic hiding ix0 ix1 ix2 ix3 ix4 ix5 eq_ix1 eq_ix2 eq_ix3
open Idealize.ShloMosaic.ValueIdx Idealize.SL.Sem

/-- A word below 2048 is itself as a signed word. -/
theorem toInt_of_lt {v : BitVec 32} (h : v.toNat < 2048) : v.toInt = v.toNat := by
  rw [BitVec.toInt_eq_toNat_cond, if_pos (by omega)]

/-- No word of the permutation is negative, so the reference adds 2048 to none. -/
theorem wrapped_eq (p : S2048.Idx → BitVec 32) (hp : ∀ c, (p c).toNat < 2048) :
    select (cmpi .slt p (broadcastInDim S2048 ![] bcast_S_S2048 (constantI S_ 32 0#32)))
      (addi p (broadcastInDim S2048 ![] bcast_S_S2048 (constantI S_ 32 2048#32))) p = p := by
  funext c
  have h : IntOp.cmpi .slt (p c) 0#32 = 0#1 := by
    refine eq_zero_of_ne_one fun h => ?_
    have := IntOp.cmpi_slt.1 h
    rw [toInt_of_lt (hp c)] at this
    simp at this
    omega
  show Scalar.select (IntOp.cmpi .slt (p c) 0#32) _ (p c) = p c
  rw [h, select_zero]

/-- Every word is in range, so the reference's mask is set everywhere. -/
theorem mask_eq (p : S2048.Idx → BitVec 32) (hp : ∀ c, (p c).toNat < 2048) (j : S2048.Idx) :
    Host.reduce IntOp.andi (andi (cmpi .sge (broadcastInDim S2048x1 ![0] bcast_S2048_S2048x1_0 p) (broadcastInDim S2048x1 ![] bcast_S_S2048x1 (constantI S_ 32 0#32)))
      (cmpi .sle (broadcastInDim S2048x1 ![0] bcast_S2048_S2048x1_0 p)
        (broadcastInDim S2048x1 ![0, 1] bcast_S1x1_S2048x1_0_1 (broadcastInDim S1x1 ![1] bcast_S1_S1x1_1 (constantI S1 32 2047#32)))))
      (constantI S_ 1 1#1) reducesTo_S2048x1_S2048_d1 h_S_ j = 1#1 := by
  refine Host.reduce_andi_one _ _ _ _ j rfl fun i => ?_
  refine IntOp.andi_eq_one.2 ⟨IntOp.cmpi_sge.2 ?_, IntOp.cmpi_sle.2 ?_⟩
  · show (0#32 : BitVec 32).toInt ≤ (p _).toInt
    rw [toInt_of_lt (hp _)]
    simp
  · have h : ∀ c, (p c).toInt ≤ (2047#32 : BitVec 32).toInt := fun c => by
      rw [toInt_of_lt (hp c), show (2047#32 : BitVec 32).toInt = 2047 by decide]
      have := hp c
      omega
    exact h _

/-- The gather along the last axis, at words in range. -/
theorem gather_eq (x : S4x4096x2048.Idx → EReal) (p : S2048.Idx → BitVec 32) (hp : ∀ c, (p c).toNat < 2048) :
    Host.gather gather_S4x4096x2048_S2048x1_S4x4096x2048_01_2_n_n_2_1_440961 x (broadcastInDim S2048x1 ![0] bcast_S2048_S2048x1_0 p)
      = taken x p := by
  funext y
  unfold Host.gather taken
  congr 1
  funext a
  refine Fin.ext ?_
  show GatherDims.start gather_S4x4096x2048_S2048x1_S4x4096x2048_01_2_n_n_2_1_440961 y (broadcastInDim S2048x1 ![0] bcast_S2048_S2048x1_0 p) a
    + GatherDims.batchCoord gather_S4x4096x2048_S2048x1_S4x4096x2048_01_2_n_n_2_1_440961 y a
    + GatherDims.offCoord gather_S4x4096x2048_S2048x1_S4x4096x2048_01_2_n_n_2_1_440961 y a = _
  rw [GatherDims.batchCoord_eq_zero _ _ _ List.not_mem_nil]
  match a with
  | ⟨0, _⟩ =>
    rw [GatherDims.start, dif_neg (fun h => by simpa using (List.mem_singleton.mp h))]
    simp only [Nat.zero_add]
    rfl
  | ⟨1, _⟩ =>
    rw [GatherDims.start, dif_neg (fun h => by simpa using (List.mem_singleton.mp h))]
    simp only [Nat.zero_add]
    rfl
  | ⟨2, _⟩ =>
    rw [GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have hpick : (pick p (y 2)).val = (p (ix1 (y 2))).toNat := Nat.mod_eq_of_lt (hp _)
    show min (p _).toInt.toNat (2048 - 1) = (pick p (y 2)).val
    rw [hpick, toInt_of_lt (hp _), Int.toNat_natCast]
    have hk : ∀ c : S2048.Idx, min (p c).toNat (2048 - 1) = (p c).toNat := fun c => by have := hp c; omega
    rw [hk]
    congr 2
    funext b
    match b with
    | ⟨0, _⟩ => exact (dif_neg (show ¬(2048 = 1) by decide)).trans (Fin.ext rfl)

/-- The array the reference leaves, as its operations compose. -/
theorem term_eq (x : S4x4096x2048.Idx → EReal) (p : S2048.Idx → BitVec 32) (hp : ∀ c, (p c).toNat < 2048) :
    select (broadcastInDim S4x4096x2048 ![2] bcast_S2048_S4x4096x2048_2
      (Host.reduce IntOp.andi (andi (cmpi .sge (broadcastInDim S2048x1 ![0] bcast_S2048_S2048x1_0
          (select (cmpi .slt p (broadcastInDim S2048 ![] bcast_S_S2048 (constantI S_ 32 0#32)))
          (addi p (broadcastInDim S2048 ![] bcast_S_S2048 (constantI S_ 32 2048#32))) p)) (broadcastInDim S2048x1 ![] bcast_S_S2048x1 (constantI S_ 32 0#32)))
        (cmpi .sle (broadcastInDim S2048x1 ![0] bcast_S2048_S2048x1_0
          (select (cmpi .slt p (broadcastInDim S2048 ![] bcast_S_S2048 (constantI S_ 32 0#32)))
          (addi p (broadcastInDim S2048 ![] bcast_S_S2048 (constantI S_ 32 2048#32))) p)) (broadcastInDim S2048x1 ![0, 1] bcast_S1x1_S2048x1_0_1 (broadcastInDim S1x1 ![1] bcast_S1_S1x1_1 (constantI S1 32 2047#32)))))
        (constantI S_ 1 1#1) reducesTo_S2048x1_S2048_d1 h_S_))
      (Host.gather gather_S4x4096x2048_S2048x1_S4x4096x2048_01_2_n_n_2_1_440961 x (broadcastInDim S2048x1 ![0] bcast_S2048_S2048x1_0
          (select (cmpi .slt p (broadcastInDim S2048 ![] bcast_S_S2048 (constantI S_ 32 0#32)))
          (addi p (broadcastInDim S2048 ![] bcast_S_S2048 (constantI S_ 32 2048#32))) p)))
      (broadcastInDim S4x4096x2048 ![] bcast_S_S4x4096x2048 (constant (F := Ideal) S_ .f32 0x7FC00000#32))
      = taken x p := by
  rw [wrapped_eq p hp, gather_eq x p hp]
  funext i
  rw [select_apply]
  refine (congrArg (fun b => Scalar.select b _ _) ?_).trans (select_one _ _)
  exact mask_eq p hp _

/-- `Cert.algebraic_KernelIdeal_ReferenceIdeal`: from equal arguments, the kernel and the reference, read over the extended
    reals, both end with the argument's columns taken at the permutation. -/
theorem algebraic : Cert.algebraic_KernelIdeal_ReferenceIdeal := by
  intro m g m' g' hpre hargs
  have hp : ∀ d c, (perm m d c).toNat < 2048 := fun d c => bound_of_fn _ _ (hpre d) c
  refine ⟨fun d => taken (m ((SparseCore.T d).loc Cert.KernelIdeal.main_arg0)) (perm m d), ?_, ?_⟩
  · exact (θ_run Cert.KernelIdeal.defs _ _).mono
      (fun r h c => ⟨(h.1 c).2.2.trans (result_eq m c (hp c)), (h.1 c).1, (h.1 c).2.1⟩) (run_main (F := Ideal) m g hp)
  · refine (θ_run Cert.ReferenceIdeal.defs _ _).mono (fun r h c => ⟨(h c).1.trans ?_, (h c).2.1, (h c).2.2⟩)
      (Cert.ReferenceIdeal.Value.run (F := Ideal) m' g')
    rw [(hargs c).1, (hargs c).2]
    exact term_eq _ _ (hp c)

end Cert.Proof.Permute

end
-- ==== Proof.lean ====
/-
  The proof of `Cert.Claim` (Defs.lean): the frames of the kernel read bit for bit and over the extended reals, the frames of
  the reference, and the equality of the two results over the extended reals. The run of the kernel is in Proof/Run.lean and
  the modules it imports, once for both readings; Proof/Frames.lean takes the frames from it, Proof/Value.lean and
  Proof/Reference.lean compute the two results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Reference

@[expose] public section

noncomputable section

namespace Cert.Proof

/-- Every claim of the certificate. -/
theorem claim : Cert.Claim := ⟨Cert.Kernel.Gen.facts, Cert.KernelIdeal.Gen.facts, Cert.ReferenceIdeal.Gen.facts, Cert.Pre_in_range.Gen.facts,
  Permute.frame_kernel, Permute.frame_kernelIdeal, Permute.frame_reference, Permute.frame_reference_in_range, trivial, Permute.algebraic⟩

end Cert.Proof

end
